-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![64, 512, 1024]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S1024x512 : Shape := ⟨2, ![1024, 512]⟩
abbrev S512x64 : Shape := ⟨2, ![512, 64]⟩
abbrev S1024x1 : Shape := ⟨2, ![1024, 1]⟩
abbrev S4x512x1024 : Shape := ⟨3, ![4, 512, 1024]⟩
abbrev S512x1024 : Shape := ⟨2, ![512, 1024]⟩
abbrev S1024x64 : Shape := ⟨2, ![1024, 64]⟩
abbrev S_ : Shape := ⟨0, ![]⟩
abbrev S1024 : Shape := ⟨1, ![1024]⟩

class Facts : Prop where
  reducesTo_S1024x64_S1024_d1 : S1024x64.ReducesTo [1] S1024
  h_S_ : 0 < S_.numel
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  bcast_S_S1024x64 : S_.BroadcastsInDim S1024x64 (![] : Fin 0 → Fin S1024x64.rank)
  reducesTo_S1024_S_d0 : S1024.ReducesTo [0] S_
  dot_S1024x512_S512x64_S1024x64_1_0_0_1_n_n_wf : DotDims.WF S1024x512 S512x64 S1024x64 [1] [0] [0] [1] [] []

variable [Facts]

def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf
def fn {F : FTy → Type} [FloatOps F] (main_arg0 : FVec F S1024x512 .f32) (main_arg1 : FVec F S512x64 .f32) (main_arg2 : IVec S1024x1 32) (main_arg3 : FVec F S4x512x1024 .f32) (main_arg4 : FVec F S512x1024 .f32) : IVec S_ 1 :=
  let main_v0 : FVec F S1024x64 .f32 := (fun l r => Host.dotGeneral dot_S1024x512_S512x64_S1024x64_1_0_0_1_n_n none l r) main_arg0 main_arg1
  let main_cst : FVec F S_ .f32 := constant S_ .f32 0xFF800000#32
  let main_v1 : FVec F S1024 .f32 := (fun x v => Host.reduce FloatOps.maximumf x v reducesTo_S1024x64_S1024_d1 h_S_) main_v0 main_cst
  let main_v2 : FVec F S1024x1 .f32 := broadcastInDim S1024x1 ![0] bcast_S1024_S1024x1_0 main_v1
  let main_v3 : FVec F S1024x64 .f32 := broadcastInDim S1024x64 ![0, 1] bcast_S1024x1_S1024x64_0_1 main_v2
  let main_v4 : FVec F S1024x64 .f32 := subf main_v0 main_v3
  let main_v5 : IVec S1024x64 32 := iotaInDim S1024x64 32 1
  let main_v6 : IVec S1024x64 32 := broadcastInDim S1024x64 ![0, 1] bcast_S1024x1_S1024x64_0_1 main_arg2
  let main_v7 : IVec S1024x64 1 := cmpi .eq main_v5 main_v6
  let main_cst_0 : FVec F S_ .f32 := constant S_ .f32 0x00000000#32
  let main_v8 : FVec F S1024x64 .f32 := broadcastInDim S1024x64 ![] bcast_S_S1024x64 main_cst_0
  let main_v9 : IVec S1024x64 1 := cmpf .oeq main_v4 main_v8
  let main_v10 : IVec S1024x64 1 := andi main_v7 main_v9
  let main_c : IVec S_ 1 := constantI S_ 1 0#1
  let main_v11 : IVec S1024 1 := (fun x v => Host.reduce IntOp.ori x v reducesTo_S1024x64_S1024_d1 h_S_) main_v10 main_c
  let main_c_1 : IVec S_ 1 := constantI S_ 1 1#1
  let main_v12 : IVec S_ 1 := (fun x v => Host.reduce IntOp.andi x v reducesTo_S1024_S_d0 h_S_) main_v11 main_c_1
  main_v12
-- ==== Pre_routed_ReferenceIdeal.lean ====
abbrev S1024x512 : Shape := ⟨2, ![1024, 512]⟩
abbrev S512x64 : Shape := ⟨2, ![512, 64]⟩
abbrev S1024x1 : Shape := ⟨2, ![1024, 1]⟩
abbrev S64x512x1024 : Shape := ⟨3, ![64, 512, 1024]⟩
abbrev S512x1024 : Shape := ⟨2, ![512, 1024]⟩
abbrev S1024x64 : Shape := ⟨2, ![1024, 64]⟩
abbrev S_ : Shape := ⟨0, ![]⟩
abbrev S1024 : Shape := ⟨1, ![1024]⟩

class Facts : Prop where
  reducesTo_S1024x64_S1024_d1 : S1024x64.ReducesTo [1] S1024
  h_S_ : 0 < S_.numel
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  bcast_S_S1024x64 : S_.BroadcastsInDim S1024x64 (![] : Fin 0 → Fin S1024x64.rank)
  reducesTo_S1024_S_d0 : S1024.ReducesTo [0] S_
  dot_S1024x512_S512x64_S1024x64_1_0_0_1_n_n_wf : DotDims.WF S1024x512 S512x64 S1024x64 [1] [0] [0] [1] [] []

variable [Facts]

def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf
def fn {F : FTy → Type} [FloatOps F] (main_arg0 : FVec F S1024x512 .f32) (main_arg1 : FVec F S512x64 .f32) (main_arg2 : IVec S1024x1 32) (main_arg3 : FVec F S64x512x1024 .f32) (main_arg4 : FVec F S512x1024 .f32) : IVec S_ 1 :=
  let main_v0 : FVec F S1024x64 .f32 := (fun l r => Host.dotGeneral dot_S1024x512_S512x64_S1024x64_1_0_0_1_n_n none l r) main_arg0 main_arg1
  let main_cst : FVec F S_ .f32 := constant S_ .f32 0xFF800000#32
  let main_v1 : FVec F S1024 .f32 := (fun x v => Host.reduce FloatOps.maximumf x v reducesTo_S1024x64_S1024_d1 h_S_) main_v0 main_cst
  let main_v2 : FVec F S1024x1 .f32 := broadcastInDim S1024x1 ![0] bcast_S1024_S1024x1_0 main_v1
  let main_v3 : FVec F S1024x64 .f32 := broadcastInDim S1024x64 ![0, 1] bcast_S1024x1_S1024x64_0_1 main_v2
  let main_v4 : FVec F S1024x64 .f32 := subf main_v0 main_v3
  let main_v5 : IVec S1024x64 32 := iotaInDim S1024x64 32 1
  let main_v6 : IVec S1024x64 32 := broadcastInDim S1024x64 ![0, 1] bcast_S1024x1_S1024x64_0_1 main_arg2
  let main_v7 : IVec S1024x64 1 := cmpi .eq main_v5 main_v6
  let main_cst_0 : FVec F S_ .f32 := constant S_ .f32 0x00000000#32
  let main_v8 : FVec F S1024x64 .f32 := broadcastInDim S1024x64 ![] bcast_S_S1024x64 main_cst_0
  let main_v9 : IVec S1024x64 1 := cmpf .oeq main_v4 main_v8
  let main_v10 : IVec S1024x64 1 := andi main_v7 main_v9
  let main_c : IVec S_ 1 := constantI S_ 1 0#1
  let main_v11 : IVec S1024 1 := (fun x v => Host.reduce IntOp.ori x v reducesTo_S1024x64_S1024_d1 h_S_) main_v10 main_c
  let main_c_1 : IVec S_ 1 := constantI S_ 1 1#1
  let main_v12 : IVec S_ 1 := (fun x v => Host.reduce IntOp.andi x v reducesTo_S1024_S_d0 h_S_) main_v11 main_c_1
  main_v12
-- ==== Kernel.lean ====
abbrev S1024x512 : Shape := ⟨2, ![1024, 512]⟩
abbrev S512x64 : Shape := ⟨2, ![512, 64]⟩
abbrev S1024x1 : Shape := ⟨2, ![1024, 1]⟩
abbrev S4x512x1024 : Shape := ⟨3, ![4, 512, 1024]⟩
abbrev S512x1024 : Shape := ⟨2, ![512, 1024]⟩
abbrev S1024x1024 : Shape := ⟨2, ![1024, 1024]⟩
abbrev S16x64x1024 : Shape := ⟨3, ![16, 64, 1024]⟩
abbrev S12x64x1024 : Shape := ⟨3, ![12, 64, 1024]⟩
abbrev S3x64x1024 : Shape := ⟨3, ![3, 64, 1024]⟩
abbrev S12 : Shape := ⟨1, ![12]⟩
abbrev S3 : Shape := ⟨1, ![3]⟩
abbrev S_ : Shape := ⟨0, ![]⟩
abbrev S256x512 : Shape := ⟨2, ![256, 512]⟩
abbrev S256x1 : Shape := ⟨2, ![256, 1]⟩
abbrev S256x64 : Shape := ⟨2, ![256, 64]⟩
abbrev S256 : Shape := ⟨1, ![256]⟩
abbrev S1x512x1024 : Shape := ⟨3, ![1, 512, 1024]⟩
abbrev S256x1024 : Shape := ⟨2, ![256, 1024]⟩
abbrev S4x64x1024 : Shape := ⟨3, ![4, 64, 1024]⟩
abbrev S1 : Shape := ⟨1, ![1]⟩
abbrev S1x64x1024 : Shape := ⟨3, ![1, 64, 1024]⟩
abbrev S64x1024 : Shape := ⟨2, ![64, 1024]⟩

abbrev nBuf : Space → Nat
  | .hbm => 6
  | .vmem => 13
  | .smem => 0
  | _ => 0

abbrev bufTy : (tb : Table) → Fin (tcTables nBuf tb) → BufTy
  | .hbm, ⟨0, _⟩ => ⟨S1024x512, .f32⟩
  | .hbm, ⟨1, _⟩ => ⟨S512x64, .f32⟩
  | .hbm, ⟨2, _⟩ => ⟨S1024x1, .i32⟩
  | .hbm, ⟨3, _⟩ => ⟨S4x512x1024, .f32⟩
  | .hbm, ⟨4, _⟩ => ⟨S512x1024, .f32⟩
  | .hbm, ⟨5, _⟩ => ⟨S1024x1024, .f32⟩
  | .local _ .vmem, ⟨0, _⟩ => ⟨S1024x512, .f32⟩
  | .local _ .vmem, ⟨1, _⟩ => ⟨S512x64, .f32⟩
  | .local _ .vmem, ⟨2, _⟩ => ⟨S1024x1, .i32⟩
  | .local _ .vmem, ⟨3, _⟩ => ⟨S4x512x1024, .f32⟩
  | .local _ .vmem, ⟨4, _⟩ => ⟨S512x1024, .f32⟩
  | .local _ .vmem, ⟨5, _⟩ => ⟨S1024x1024, .f32⟩
  | .local _ .vmem, ⟨6, _⟩ => ⟨S16x64x1024, .bf16⟩
  | .local _ .vmem, ⟨7, _⟩ => ⟨S12x64x1024, .bf16⟩
  | .local _ .vmem, ⟨8, _⟩ => ⟨S3x64x1024, .bf16⟩
  | .local _ .vmem, ⟨9, _⟩ => ⟨S1024x1024, .f32⟩
  | .local _ .vmem, ⟨10, _⟩ => ⟨S1024x512, .bf16⟩
  | .local _ .vmem, ⟨11, _⟩ => ⟨S4x512x1024, .bf16⟩
  | .local _ .vmem, ⟨12, _⟩ => ⟨S512x1024, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v23 : BitVec 32 := Scalar.addi v20 c1_i32_7
  let c4_i32_8 : BitVec 32 := 4#32
  let v24 : BitVec 32 := Scalar.remsi v23 c4_i32_8
  let v25 : BitVec 32 := Scalar.addi v21 v24
  let c1_i32_10 : BitVec 32 := 1#32
  let v26 : BitVec 32 := Scalar.muli v25 c1_i32_10
  let v27 : BitVec 32 := Scalar.addi c0_i32_11 v26
  v27.toNat
def k0_dev2 (d0 : Dev nD) : Nat :=
  let c0_i32_16 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_12 : BitVec 32 := 4#32
  let v28 : BitVec 32 := Scalar.addi v2 c4_i32_12
  let c16_i32_13 : BitVec 32 := 16#32
  let v29 : BitVec 32 := Scalar.remsi v28 c16_i32_13
  let c1_i32_15 : BitVec 32 := 1#32
  let v30 : BitVec 32 := Scalar.muli v29 c1_i32_15
  let v31 : BitVec 32 := Scalar.addi c0_i32_16 v30
  v31.toNat
def k0_dev3 (d0 : Dev nD) : Nat :=
  let c0_i32_20 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c2_i32 : BitVec 32 := 2#32
  let v32 : BitVec 32 := Scalar.addi v20 c2_i32
  let c4_i32_17 : BitVec 32 := 4#32
  let v33 : BitVec 32 := Scalar.remsi v32 c4_i32_17
  let v34 : BitVec 32 := Scalar.addi v21 v33
  let c1_i32_19 : BitVec 32 := 1#32
  let v35 : BitVec 32 := Scalar.muli v34 c1_i32_19
  let v36 : BitVec 32 := Scalar.addi c0_i32_20 v35
  v36.toNat
def k0_dev4 (d0 : Dev nD) : Nat :=
  let c0_i32_24 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v37 : BitVec 32 := Scalar.addi v2 c8_i32
  let c16_i32_21 : BitVec 32 := 16#32
  let v38 : BitVec 32 := Scalar.remsi v37 c16_i32_21
  let c1_i32_23 : BitVec 32 := 1#32
  let v39 : BitVec 32 := Scalar.muli v38 c1_i32_23
  let v40 : BitVec 32 := Scalar.addi c0_i32_24 v39
  v40.toNat
def k0_dev5 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c3_i32 : BitVec 32 := 3#32
  let v41 : BitVec 32 := Scalar.addi v20 c3_i32
  let c4_i32_25 : BitVec 32 := 4#32
  let v42 : BitVec 32 := Scalar.remsi v41 c4_i32_25
  let v43 : BitVec 32 := Scalar.addi v21 v42
  let c1_i32_27 : BitVec 32 := 1#32
  let v44 : BitVec 32 := Scalar.muli v43 c1_i32_27
  let v45 : BitVec 32 := Scalar.addi c0_i32_28 v44
  v45.toNat
def k0_dev6 (d0 : Dev nD) : Nat :=
  let c0_i32_32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v46 : BitVec 32 := Scalar.addi v2 c12_i32
  let c16_i32_29 : BitVec 32 := 16#32
  let v47 : BitVec 32 := Scalar.remsi v46 c16_i32_29
  let c1_i32_31 : BitVec 32 := 1#32
  let v48 : BitVec 32 := Scalar.muli v47 c1_i32_31
  let v49 : BitVec 32 := Scalar.addi c0_i32_32 v48
  v49.toNat
def k0_off1 (d0 : Dev nD) (c0_i32_78 : BitVec 32) (c1_i32_76 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v141 : BitVec 32 := Scalar.addi v20 c1_i32_76
  let c4_i32_77 : BitVec 32 := 4#32
  let v142 : BitVec 32 := Scalar.remsi v141 c4_i32_77
  let v143 : BitVec 32 := Scalar.addi c0_i32_78 v142
  let c0_i32_86 : BitVec 32 := 0#32
  let c0_i32_87 : BitVec 32 := 0#32
  ![v143.toNat, 0, 0]
def k0_dev7 (d0 : Dev nD) : Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_76 : BitVec 32 := 1#32
  let v141 : BitVec 32 := Scalar.addi v20 c1_i32_76
  let c4_i32_77 : BitVec 32 := 4#32
  let v142 : BitVec 32 := Scalar.remsi v141 c4_i32_77
  let v144 : BitVec 32 := Scalar.addi v21 v142
  let c1_i32_82 : BitVec 32 := 1#32
  let v145 : BitVec 32 := Scalar.muli v144 c1_i32_82
  let v146 : BitVec 32 := Scalar.addi c0_i32_83 v145
  v146.toNat
def k0_dev8 (d0 : Dev nD) : Nat :=
  let c0_i32_95 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c2_i32_88 : BitVec 32 := 2#32
  let v155 : BitVec 32 := Scalar.addi v20 c2_i32_88
  let c4_i32_89 : BitVec 32 := 4#32
  let v156 : BitVec 32 := Scalar.remsi v155 c4_i32_89
  let v158 : BitVec 32 := Scalar.addi v21 v156
  let c1_i32_94 : BitVec 32 := 1#32
  let v159 : BitVec 32 := Scalar.muli v158 c1_i32_94
  let v160 : BitVec 32 := Scalar.addi c0_i32_95 v159
  v160.toNat
def k0_dev9 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c3_i32_100 : BitVec 32 := 3#32
  let v169 : BitVec 32 := Scalar.addi v20 c3_i32_100
  let c4_i32_101 : BitVec 32 := 4#32
  let v170 : BitVec 32 := Scalar.remsi v169 c4_i32_101
  let v172 : BitVec 32 := Scalar.addi v21 v170
  let c1_i32_106 : BitVec 32 := 1#32
  let v173 : BitVec 32 := Scalar.muli v172 c1_i32_106
  let v174 : BitVec 32 := Scalar.addi c0_i32_107 v173
  v174.toNat
def k0_dev10 (d0 : Dev nD) : Nat :=
  let c0_i32_150 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_143 : BitVec 32 := 1#32
  let v255 : BitVec 32 := Scalar.addi v20 c1_i32_143
  let c4_i32_144 : BitVec 32 := 4#32
  let v256 : BitVec 32 := Scalar.remsi v255 c4_i32_144
  let v258 : BitVec 32 := Scalar.addi v21 v256
  let c1_i32_149 : BitVec 32 := 1#32
  let v259 : BitVec 32 := Scalar.muli v258 c1_i32_149
  let v260 : BitVec 32 := Scalar.addi c0_i32_150 v259
  v260.toNat
def k0_dev11 (d0 : Dev nD) : Nat :=
  let c0_i32_161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c2_i32_155 : BitVec 32 := 2#32
  let v269 : BitVec 32 := Scalar.addi v20 c2_i32_155
  let c4_i32_156 : BitVec 32 := 4#32
  let v270 : BitVec 32 := Scalar.remsi v269 c4_i32_156
  let v272 : BitVec 32 := Scalar.addi v21 v270
  let c1_i32_160 : BitVec 32 := 1#32
  let v273 : BitVec 32 := Scalar.muli v272 c1_i32_160
  let v274 : BitVec 32 := Scalar.addi c0_i32_161 v273
  v274.toNat
def k0_dev12 (d0 : Dev nD) : Nat :=
  let c0_i32_172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c3_i32_166 : BitVec 32 := 3#32
  let v283 : BitVec 32 := Scalar.addi v20 c3_i32_166
  let c4_i32_167 : BitVec 32 := 4#32
  let v284 : BitVec 32 := Scalar.remsi v283 c4_i32_167
  let v286 : BitVec 32 := Scalar.addi v21 v284
  let c1_i32_171 : BitVec 32 := 1#32
  let v287 : BitVec 32 := Scalar.muli v286 c1_i32_171
  let v288 : BitVec 32 := Scalar.addi c0_i32_172 v287
  v288.toNat
def k0_dev13 (d0 : Dev nD) : Nat :=
  let c0_i32_215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_208 : BitVec 32 := 1#32
  let v369 : BitVec 32 := Scalar.addi v20 c1_i32_208
  let c4_i32_209 : BitVec 32 := 4#32
  let v370 : BitVec 32 := Scalar.remsi v369 c4_i32_209
  let v372 : BitVec 32 := Scalar.addi v21 v370
  let c1_i32_214 : BitVec 32 := 1#32
  let v373 : BitVec 32 := Scalar.muli v372 c1_i32_214
  let v374 : BitVec 32 := Scalar.addi c0_i32_215 v373
  v374.toNat
def k0_dev14 (d0 : Dev nD) : Nat :=
  let c0_i32_227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c2_i32_220 : BitVec 32 := 2#32
  let v383 : BitVec 32 := Scalar.addi v20 c2_i32_220
  let c4_i32_221 : BitVec 32 := 4#32
  let v384 : BitVec 32 := Scalar.remsi v383 c4_i32_221
  let v386 : BitVec 32 := Scalar.addi v21 v384
  let c1_i32_226 : BitVec 32 := 1#32
  let v387 : BitVec 32 := Scalar.muli v386 c1_i32_226
  let v388 : BitVec 32 := Scalar.addi c0_i32_227 v387
  v388.toNat
def k0_dev15 (d0 : Dev nD) : Nat :=
  let c0_i32_238 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c3_i32_232 : BitVec 32 := 3#32
  let v397 : BitVec 32 := Scalar.addi v20 c3_i32_232
  let c4_i32_233 : BitVec 32 := 4#32
  let v398 : BitVec 32 := Scalar.remsi v397 c4_i32_233
  let v400 : BitVec 32 := Scalar.addi v21 v398
  let c1_i32_237 : BitVec 32 := 1#32
  let v401 : BitVec 32 := Scalar.muli v400 c1_i32_237
  let v402 : BitVec 32 := Scalar.addi c0_i32_238 v401
  v402.toNat
def k0_dev16 (d0 : Dev nD) : Nat :=
  let c0_i32_281 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_274 : BitVec 32 := 1#32
  let v483 : BitVec 32 := Scalar.addi v20 c1_i32_274
  let c4_i32_275 : BitVec 32 := 4#32
  let v484 : BitVec 32 := Scalar.remsi v483 c4_i32_275
  let v486 : BitVec 32 := Scalar.addi v21 v484
  let c1_i32_280 : BitVec 32 := 1#32
  let v487 : BitVec 32 := Scalar.muli v486 c1_i32_280
  let v488 : BitVec 32 := Scalar.addi c0_i32_281 v487
  v488.toNat
def k0_dev17 (d0 : Dev nD) : Nat :=
  let c0_i32_292 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c2_i32_286 : BitVec 32 := 2#32
  let v497 : BitVec 32 := Scalar.addi v20 c2_i32_286
  let c4_i32_287 : BitVec 32 := 4#32
  let v498 : BitVec 32 := Scalar.remsi v497 c4_i32_287
  let v500 : BitVec 32 := Scalar.addi v21 v498
  let c1_i32_291 : BitVec 32 := 1#32
  let v501 : BitVec 32 := Scalar.muli v500 c1_i32_291
  let v502 : BitVec 32 := Scalar.addi c0_i32_292 v501
  v502.toNat
def k0_dev18 (d0 : Dev nD) : Nat :=
  let c0_i32_303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c3_i32_297 : BitVec 32 := 3#32
  let v511 : BitVec 32 := Scalar.addi v20 c3_i32_297
  let c4_i32_298 : BitVec 32 := 4#32
  let v512 : BitVec 32 := Scalar.remsi v511 c4_i32_298
  let v514 : BitVec 32 := Scalar.addi v21 v512
  let c1_i32_302 : BitVec 32 := 1#32
  let v515 : BitVec 32 := Scalar.muli v514 c1_i32_302
  let v516 : BitVec 32 := Scalar.addi c0_i32_303 v515
  v516.toNat
def k0_off2 (d0 : Dev nD) (c0_i32_373 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v579 : BitVec 32 := Scalar.addi c0_i32_373 v20
  let v580 : Index := Scalar.indexCast v579
  let c0_374 : Index := 0#32
  let c0_375 : Index := 0#32
  ![v580.toNat, 0, 0]
def k0_off3 (d0 : Dev nD) (c1_i32_576 : BitVec 32) : Fin 3 → Nat :=
  let c4_i32_580 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v793 : BitVec 32 := Scalar.addi v19 c1_i32_576
  let c4_i32_577 : BitVec 32 := 4#32
  let v794 : BitVec 32 := Scalar.remsi v793 c4_i32_577
  let v797 : BitVec 32 := Scalar.muli c4_i32_580 v794
  let c4_i32_5 : BitVec 32 := 4#32
  let v20 : BitVec 32 := Scalar.remsi v2 c4_i32_5
  let v798 : BitVec 32 := Scalar.addi v797 v20
  let c0_i32_588 : BitVec 32 := 0#32
  let c0_i32_589 : BitVec 32 := 0#32
  ![v798.toNat, 0, 0]
def k0_dev19 (d0 : Dev nD) : Nat :=
  let c0_i32_585 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_578 : BitVec 32 := 4#32
  let v795 : BitVec 32 := Scalar.addi v2 c4_i32_578
  let c16_i32_579 : BitVec 32 := 16#32
  let v796 : BitVec 32 := Scalar.remsi v795 c16_i32_579
  let c1_i32_584 : BitVec 32 := 1#32
  let v799 : BitVec 32 := Scalar.muli v796 c1_i32_584
  let v800 : BitVec 32 := Scalar.addi c0_i32_585 v799
  v800.toNat
def k0_dev20 (d0 : Dev nD) : Nat :=
  let c0_i32_599 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_592 : BitVec 32 := 8#32
  let v811 : BitVec 32 := Scalar.addi v2 c8_i32_592
  let c16_i32_593 : BitVec 32 := 16#32
  let v812 : BitVec 32 := Scalar.remsi v811 c16_i32_593
  let c1_i32_598 : BitVec 32 := 1#32
  let v815 : BitVec 32 := Scalar.muli v812 c1_i32_598
  let v816 : BitVec 32 := Scalar.addi c0_i32_599 v815
  v816.toNat
def k0_dev21 (d0 : Dev nD) : Nat :=
  let c0_i32_613 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_606 : BitVec 32 := 12#32
  let v827 : BitVec 32 := Scalar.addi v2 c12_i32_606
  let c16_i32_607 : BitVec 32 := 16#32
  let v828 : BitVec 32 := Scalar.remsi v827 c16_i32_607
  let c1_i32_612 : BitVec 32 := 1#32
  let v831 : BitVec 32 := Scalar.muli v828 c1_i32_612
  let v832 : BitVec 32 := Scalar.addi c0_i32_613 v831
  v832.toNat
def k0_off4 (d0 : Dev nD) : Fin 3 → Nat :=
  let c4_i32_683 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v895 : BitVec 32 := Scalar.muli c4_i32_683 v19
  let c4_i32_5 : BitVec 32 := 4#32
  let v20 : BitVec 32 := Scalar.remsi v2 c4_i32_5
  let v896 : BitVec 32 := Scalar.addi v895 v20
  let v897 : Index := Scalar.indexCast v896
  let c0_684 : Index := 0#32
  let c0_685 : Index := 0#32
  ![v897.toNat, 0, 0]
def k0_dev22 (d0 : Dev nD) : Nat :=
  let c0_i32_705 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_700 : BitVec 32 := 1#32
  let v922 : BitVec 32 := Scalar.addi v20 c1_i32_700
  let c4_i32_701 : BitVec 32 := 4#32
  let v923 : BitVec 32 := Scalar.remsi v922 c4_i32_701
  let v924 : BitVec 32 := Scalar.addi v21 v923
  let c1_i32_704 : BitVec 32 := 1#32
  let v925 : BitVec 32 := Scalar.muli v924 c1_i32_704
  let v926 : BitVec 32 := Scalar.addi c0_i32_705 v925
  v926.toNat
def k0_dev23 (d0 : Dev nD) : Nat :=
  let c0_i32_715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c2_i32_710 : BitVec 32 := 2#32
  let v935 : BitVec 32 := Scalar.addi v20 c2_i32_710
  let c4_i32_711 : BitVec 32 := 4#32
  let v936 : BitVec 32 := Scalar.remsi v935 c4_i32_711
  let v937 : BitVec 32 := Scalar.addi v21 v936
  let c1_i32_714 : BitVec 32 := 1#32
  let v938 : BitVec 32 := Scalar.muli v937 c1_i32_714
  let v939 : BitVec 32 := Scalar.addi c0_i32_715 v938
  v939.toNat
def k0_dev24 (d0 : Dev nD) : Nat :=
  let c0_i32_725 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c3_i32_720 : BitVec 32 := 3#32
  let v948 : BitVec 32 := Scalar.addi v20 c3_i32_720
  let c4_i32_721 : BitVec 32 := 4#32
  let v949 : BitVec 32 := Scalar.remsi v948 c4_i32_721
  let v950 : BitVec 32 := Scalar.addi v21 v949
  let c1_i32_724 : BitVec 32 := 1#32
  let v951 : BitVec 32 := Scalar.muli v950 c1_i32_724
  let v952 : BitVec 32 := Scalar.addi c0_i32_725 v951
  v952.toNat
def k0_off5 (d0 : Dev nD) : Fin 3 → Nat :=
  let c4_i32_683 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v895 : BitVec 32 := Scalar.muli c4_i32_683 v19
  let c4_i32_5 : BitVec 32 := 4#32
  let v20 : BitVec 32 := Scalar.remsi v2 c4_i32_5
  let v896 : BitVec 32 := Scalar.addi v895 v20
  let c0_i32_736 : BitVec 32 := 0#32
  let c0_i32_737 : BitVec 32 := 0#32
  ![v896.toNat, 0, 0]
def k0_dev25 (d0 : Dev nD) : Nat :=
  let c0_i32_735 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_730 : BitVec 32 := 4#32
  let v961 : BitVec 32 := Scalar.addi v2 c4_i32_730
  let c16_i32_731 : BitVec 32 := 16#32
  let v962 : BitVec 32 := Scalar.remsi v961 c16_i32_731
  let c1_i32_734 : BitVec 32 := 1#32
  let v963 : BitVec 32 := Scalar.muli v962 c1_i32_734
  let v964 : BitVec 32 := Scalar.addi c0_i32_735 v963
  v964.toNat
def k0_dev26 (d0 : Dev nD) : Nat :=
  let c0_i32_745 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_740 : BitVec 32 := 8#32
  let v973 : BitVec 32 := Scalar.addi v2 c8_i32_740
  let c16_i32_741 : BitVec 32 := 16#32
  let v974 : BitVec 32 := Scalar.remsi v973 c16_i32_741
  let c1_i32_744 : BitVec 32 := 1#32
  let v975 : BitVec 32 := Scalar.muli v974 c1_i32_744
  let v976 : BitVec 32 := Scalar.addi c0_i32_745 v975
  v976.toNat
def k0_dev27 (d0 : Dev nD) : Nat :=
  let c0_i32_755 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_750 : BitVec 32 := 12#32
  let v985 : BitVec 32 := Scalar.addi v2 c12_i32_750
  let c16_i32_751 : BitVec 32 := 16#32
  let v986 : BitVec 32 := Scalar.remsi v985 c16_i32_751
  let c1_i32_754 : BitVec 32 := 1#32
  let v987 : BitVec 32 := Scalar.muli v986 c1_i32_754
  let v988 : BitVec 32 := Scalar.addi c0_i32_755 v987
  v988.toNat
def k0_dev28 (d0 : Dev nD) : Nat :=
  let c0_i32_783 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_778 : BitVec 32 := 1#32
  let v1015 : BitVec 32 := Scalar.addi v20 c1_i32_778
  let c4_i32_779 : BitVec 32 := 4#32
  let v1016 : BitVec 32 := Scalar.remsi v1015 c4_i32_779
  let v1017 : BitVec 32 := Scalar.addi v21 v1016
  let c1_i32_782 : BitVec 32 := 1#32
  let v1018 : BitVec 32 := Scalar.muli v1017 c1_i32_782
  let v1019 : BitVec 32 := Scalar.addi c0_i32_783 v1018
  v1019.toNat
def k0_dev29 (d0 : Dev nD) : Nat :=
  let c0_i32_793 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c2_i32_788 : BitVec 32 := 2#32
  let v1028 : BitVec 32 := Scalar.addi v20 c2_i32_788
  let c4_i32_789 : BitVec 32 := 4#32
  let v1029 : BitVec 32 := Scalar.remsi v1028 c4_i32_789
  let v1030 : BitVec 32 := Scalar.addi v21 v1029
  let c1_i32_792 : BitVec 32 := 1#32
  let v1031 : BitVec 32 := Scalar.muli v1030 c1_i32_792
  let v1032 : BitVec 32 := Scalar.addi c0_i32_793 v1031
  v1032.toNat
def k0_dev30 (d0 : Dev nD) : Nat :=
  let c0_i32_803 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c3_i32_798 : BitVec 32 := 3#32
  let v1041 : BitVec 32 := Scalar.addi v20 c3_i32_798
  let c4_i32_799 : BitVec 32 := 4#32
  let v1042 : BitVec 32 := Scalar.remsi v1041 c4_i32_799
  let v1043 : BitVec 32 := Scalar.addi v21 v1042
  let c1_i32_802 : BitVec 32 := 1#32
  let v1044 : BitVec 32 := Scalar.muli v1043 c1_i32_802
  let v1045 : BitVec 32 := Scalar.addi c0_i32_803 v1044
  v1045.toNat
def k0_dev31 (d0 : Dev nD) : Nat :=
  let c0_i32_831 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_826 : BitVec 32 := 1#32
  let v1072 : BitVec 32 := Scalar.addi v20 c1_i32_826
  let c4_i32_827 : BitVec 32 := 4#32
  let v1073 : BitVec 32 := Scalar.remsi v1072 c4_i32_827
  let v1074 : BitVec 32 := Scalar.addi v21 v1073
  let c1_i32_830 : BitVec 32 := 1#32
  let v1075 : BitVec 32 := Scalar.muli v1074 c1_i32_830
  let v1076 : BitVec 32 := Scalar.addi c0_i32_831 v1075
  v1076.toNat
def k0_dev32 (d0 : Dev nD) : Nat :=
  let c0_i32_841 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c2_i32_836 : BitVec 32 := 2#32
  let v1085 : BitVec 32 := Scalar.addi v20 c2_i32_836
  let c4_i32_837 : BitVec 32 := 4#32
  let v1086 : BitVec 32 := Scalar.remsi v1085 c4_i32_837
  let v1087 : BitVec 32 := Scalar.addi v21 v1086
  let c1_i32_840 : BitVec 32 := 1#32
  let v1088 : BitVec 32 := Scalar.muli v1087 c1_i32_840
  let v1089 : BitVec 32 := Scalar.addi c0_i32_841 v1088
  v1089.toNat
def k0_dev33 (d0 : Dev nD) : Nat :=
  let c0_i32_851 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c3_i32_846 : BitVec 32 := 3#32
  let v1098 : BitVec 32 := Scalar.addi v20 c3_i32_846
  let c4_i32_847 : BitVec 32 := 4#32
  let v1099 : BitVec 32 := Scalar.remsi v1098 c4_i32_847
  let v1100 : BitVec 32 := Scalar.addi v21 v1099
  let c1_i32_850 : BitVec 32 := 1#32
  let v1101 : BitVec 32 := Scalar.muli v1100 c1_i32_850
  let v1102 : BitVec 32 := Scalar.addi c0_i32_851 v1101
  v1102.toNat
def k0_dev34 (d0 : Dev nD) : Nat :=
  let c0_i32_879 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_874 : BitVec 32 := 1#32
  let v1129 : BitVec 32 := Scalar.addi v20 c1_i32_874
  let c4_i32_875 : BitVec 32 := 4#32
  let v1130 : BitVec 32 := Scalar.remsi v1129 c4_i32_875
  let v1131 : BitVec 32 := Scalar.addi v21 v1130
  let c1_i32_878 : BitVec 32 := 1#32
  let v1132 : BitVec 32 := Scalar.muli v1131 c1_i32_878
  let v1133 : BitVec 32 := Scalar.addi c0_i32_879 v1132
  v1133.toNat
def k0_dev35 (d0 : Dev nD) : Nat :=
  let c0_i32_889 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c2_i32_884 : BitVec 32 := 2#32
  let v1142 : BitVec 32 := Scalar.addi v20 c2_i32_884
  let c4_i32_885 : BitVec 32 := 4#32
  let v1143 : BitVec 32 := Scalar.remsi v1142 c4_i32_885
  let v1144 : BitVec 32 := Scalar.addi v21 v1143
  let c1_i32_888 : BitVec 32 := 1#32
  let v1145 : BitVec 32 := Scalar.muli v1144 c1_i32_888
  let v1146 : BitVec 32 := Scalar.addi c0_i32_889 v1145
  v1146.toNat
def k0_dev36 (d0 : Dev nD) : Nat :=
  let c0_i32_899 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c3_i32_894 : BitVec 32 := 3#32
  let v1155 : BitVec 32 := Scalar.addi v20 c3_i32_894
  let c4_i32_895 : BitVec 32 := 4#32
  let v1156 : BitVec 32 := Scalar.remsi v1155 c4_i32_895
  let v1157 : BitVec 32 := Scalar.addi v21 v1156
  let c1_i32_898 : BitVec 32 := 1#32
  let v1158 : BitVec 32 := Scalar.muli v1157 c1_i32_898
  let v1159 : BitVec 32 := Scalar.addi c0_i32_899 v1158
  v1159.toNat
def k0_off6 (d0 : Dev nD) (c0_i32_949 : BitVec 32) : Fin 3 → Nat :=
  let c4_i32_951 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1210 : BitVec 32 := Scalar.addi v19 c0_i32_949
  let c4_i32_950 : BitVec 32 := 4#32
  let v1211 : BitVec 32 := Scalar.remsi v1210 c4_i32_950
  let v1212 : BitVec 32 := Scalar.muli c4_i32_951 v1211
  let v1213 : Index := Scalar.indexCast v1212
  let c0_952 : Index := 0#32
  let c0_953 : Index := 0#32
  ![v1213.toNat, 0, 0]
def k0_off7 (d0 : Dev nD) (c0_i32_949 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1210 : BitVec 32 := Scalar.addi v19 c0_i32_949
  let c4_i32_950 : BitVec 32 := 4#32
  let v1211 : BitVec 32 := Scalar.remsi v1210 c4_i32_950
  let c256_i32 : BitVec 32 := 256#32
  let v1215 : BitVec 32 := Scalar.muli v1211 c256_i32
  let v1218 : Index := Scalar.indexCast v1215
  let c0_954 : Index := 0#32
  ![v1218.toNat, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1024x512 : Shape := ⟨2, ![1024, 512]⟩
abbrev S512x64 : Shape := ⟨2, ![512, 64]⟩
abbrev S1024x1 : Shape := ⟨2, ![1024, 1]⟩
abbrev S64x512x1024 : Shape := ⟨3, ![64, 512, 1024]⟩
abbrev S512x1024 : Shape := ⟨2, ![512, 1024]⟩
abbrev S1024x64 : Shape := ⟨2, ![1024, 64]⟩
abbrev S_ : Shape := ⟨0, ![]⟩
abbrev S1024 : Shape := ⟨1, ![1024]⟩
abbrev S1024x1024 : Shape := ⟨2, ![1024, 1024]⟩
abbrev S1024x2 : Shape := ⟨2, ![1024, 2]⟩
abbrev S1024x512x1024 : Shape := ⟨3, ![1024, 512, 1024]⟩

abbrev nBuf : Space → Nat
  | .hbm => 52
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x64, .f32⟩
  | .hbm, ⟨2, _⟩ => ⟨S1024x1, .i32⟩
  | .hbm, ⟨3, _⟩ => ⟨S64x512x1024, .f32⟩
  | .hbm, ⟨4, _⟩ => ⟨S512x1024, .f32⟩
  | .hbm, ⟨5, _⟩ => ⟨S1024x64, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S1024x64, .f32⟩
  | .hbm, ⟨10, _⟩ => ⟨S1024x64, .f32⟩
  | .hbm, ⟨11, _⟩ => ⟨S1024x64, .f32⟩
  | .hbm, ⟨12, _⟩ => ⟨S_, .f32⟩
  | .hbm, ⟨13, _⟩ => ⟨S1024, .f32⟩
  | .hbm, ⟨14, _⟩ => ⟨S1024x1, .f32⟩
  | .hbm, ⟨15, _⟩ => ⟨S1024x64, .f32⟩
  | .hbm, ⟨16, _⟩ => ⟨S1024x64, .f32⟩
  | .hbm, ⟨17, _⟩ => ⟨S1024x1024, .f32⟩
  | .hbm, ⟨18, _⟩ => ⟨S1024, .i32⟩
  | .hbm, ⟨19, _⟩ => ⟨S1024, .i32⟩
  | .hbm, ⟨20, _⟩ => ⟨S_, .i32⟩
  | .hbm, ⟨21, _⟩ => ⟨S1024, .i32⟩
  | .hbm, ⟨22, _⟩ => ⟨S1024, .i1⟩
  | .hbm, ⟨23, _⟩ => ⟨S_, .i32⟩
  | .hbm, ⟨24, _⟩ => ⟨S1024, .i32⟩
  | .hbm, ⟨25, _⟩ => ⟨S1024, .i32⟩
  | .hbm, ⟨26, _⟩ => ⟨S1024, .i32⟩
  | .hbm, ⟨27, _⟩ => ⟨S_, .i32⟩
  | .hbm, ⟨28, _⟩ => ⟨S1024, .i32⟩
  | .hbm, ⟨29, _⟩ => ⟨S1024, .i1⟩
  | .hbm, ⟨30, _⟩ => ⟨S_, .i32⟩
  | .hbm, ⟨31, _⟩ => ⟨S1024, .i32⟩
  | .hbm, ⟨32, _⟩ => ⟨S1024, .i32⟩
  | .hbm, ⟨33, _⟩ => ⟨S1024, .i32⟩
  | .hbm, ⟨34, _⟩ => ⟨S1024x1, .i32⟩
  | .hbm, ⟨35, _⟩ => ⟨S1024x1, .i32⟩
  | .hbm, ⟨36, _⟩ => ⟨S1024x2, .i32⟩
  | .hbm, ⟨37, _⟩ => ⟨S1024, .f32⟩
  | .hbm, ⟨38, _⟩ => ⟨S1024x1, .f32⟩
  | .hbm, ⟨39, _⟩ => ⟨S_, .i32⟩
  | .hbm, ⟨40, _⟩ => ⟨S1024, .i32⟩
  | .hbm, ⟨41, _⟩ => ⟨S1024, .i1⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024, .i32⟩
  | .hbm, ⟨46, _⟩ => ⟨S1024x1, .i32⟩
  | .hbm, ⟨47, _⟩ => ⟨S1024x512x1024, .f32⟩
  | .hbm, ⟨48, _⟩ => ⟨S1024x1024, .f32⟩
  | .hbm, ⟨49, _⟩ => ⟨S1024x1024, .f32⟩
  | .hbm, ⟨50, _⟩ => ⟨S1024x1024, .f32⟩
  | .hbm, ⟨51, _⟩ => ⟨S1024x1024, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_4 : Ref sig .tc := ⟨.hbm, 39, rfl⟩
abbrev main_v28 : Ref sig .tc := ⟨.hbm, 40, rfl⟩
abbrev main_v29 : Ref sig .tc := ⟨.hbm, 41, rfl⟩
abbrev main_c_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Proof.Mesh.lean ====
/-
# 01_k — the sixteen devices, their transfers and their semaphores

Device `c = 4 g + q` sits in group `g` at position `q`. A transfer stays inside the group (`grpD`) or crosses to the
device of the same position in another group (`crsD`). There are four kinds of transfer, thirty in all per device (`Ch`):

* `A b j`: the partial sum of chunk `4 b + q'` goes to the group's device at position `q' = q + j + 1`;
* `B t`:   the group's sum of chunk `c'` goes to device `c' = c + 4 (t + 1)`;
* `C t`:   the finished chunk `c` goes to device `c + 4 (t + 1)`;
* `D t j`: the finished chunk `ct c t` goes to the group's device at position `q + j + 1`.

This module has the arithmetic of these, the order of the sends in the program, and the semaphores.
-/
module

public import proofs.«01_k».proof.Proof.Gen.KernelIdeal
public import proofs.«01_k».proof.Proof.Gen.KernelIdeal.Skeleton
public import Idealize.ShloMosaic.Lib.ValueIdxCore

@[expose] public section

namespace Cert.Moe

open Cert.KernelIdeal Cert.KernelIdeal.Gen
open Idealize.ShloMosaic

/-! ## Devices -/

set_option backward.proofsInPublic true in
/-- The device `j + 1` positions further in the group. -/
def grpD (c : Dev nD) (j : Fin 3) : Dev nD := ⟨4 * (c.val / 4) + (c.val % 4 + j.val + 1) % 4, by
  have : c.val < 16 := c.isLt
  show _ < 16
  omega⟩
set_option backward.proofsInPublic true in
/-- The chunk, and the device, `t` groups further at the same position. -/
def ct (c : Dev nD) (t : Fin 4) : Fin 16 := ⟨(c.val + 4 * t.val) % 16, Nat.mod_lt _ (by decide)⟩
/-- The device `t + 1` groups further at the same position. -/
def crsD (c : Dev nD) (t : Fin 3) : Dev nD := ct c t.succ
set_option backward.proofsInPublic true in
/-- The chunk of position `q` in group `b`. -/
def ch (b : Fin 4) (q : Fin 4) : Fin 16 := ⟨4 * b.val + q.val, by omega⟩
set_option backward.proofsInPublic true in
/-- A device's position in its group. -/
def pos (c : Dev nD) : Fin 4 := ⟨c.val % 4, Nat.mod_lt _ (by decide)⟩
set_option backward.proofsInPublic true in
/-- The group `t` groups further. -/
def gr (c : Dev nD) (t : Fin 4) : Fin 4 := ⟨(c.val / 4 + t.val) % 4, Nat.mod_lt _ (by decide)⟩
set_option backward.proofsInPublic true in
/-- The slot of the landing buffer of the first phase for the partial sum of group `b` from step `j`. -/
def slotA (b : Fin 4) (j : Fin 3) : Fin 12 := ⟨4 * j.val + b.val, by omega⟩

/-- A step inside the group and the reverse step lead back. -/
theorem grpD_rev : ∀ (c : Dev nD) (j : Fin 3), grpD (grpD c j) j.rev = c := by decide +kernel
/-- The reverse step inside the group and the step lead back. -/
theorem grpD_rev' : ∀ (c : Dev nD) (j : Fin 3), grpD (grpD c j.rev) j = c := by decide +kernel
/-- A step across the groups and the reverse step lead back. -/
theorem crsD_rev : ∀ (c : Dev nD) (t : Fin 3), crsD (crsD c t) t.rev = c := by decide +kernel
/-- The reverse step across the groups and the step lead back. -/
theorem crsD_rev' : ∀ (c : Dev nD) (t : Fin 3), crsD (crsD c t.rev) t = c := by decide +kernel
/-- The counterpart in the device's own group is the device itself. -/
theorem ct_zero : ∀ c : Dev nD, ct c 0 = c := by decide +kernel
/-- The counterpart `t` groups further is the chunk of that group at the device's position. -/
theorem ct_eq_ch : ∀ (c : Dev nD) (t : Fin 4), ct c t = ch (gr c t) (pos c) := by decide +kernel
/-- A device of the group is the own group's chunk at that device's position. -/
theorem pos_grpD : ∀ (c : Dev nD) (j : Fin 3), ch (gr c 0) (pos (grpD c j)) = grpD c j := by decide +kernel
/-- Counting from a device's own group, different steps give different groups. -/
theorem gr_inj : ∀ (c : Dev nD), Function.Injective (gr c) := by decide +kernel

/-! ## Transfers -/

/-- A device's transfers. -/
inductive Ch where
  | A (b : Fin 4) (j : Fin 3)
  | B (t : Fin 3)
  | C (t : Fin 3)
  | D (t : Fin 4) (j : Fin 3)
  deriving DecidableEq

/-- The transfers, as a sum of index types. -/
def chEquiv : (Fin 4 × Fin 3) ⊕ Fin 3 ⊕ Fin 3 ⊕ (Fin 4 × Fin 3) ≃ Ch where
  toFun
    | .inl (b, j) => .A b j
    | .inr (.inl t) => .B t
    | .inr (.inr (.inl t)) => .C t
    | .inr (.inr (.inr (t, j))) => .D t j
  invFun
    | .A b j => .inl (b, j)
    | .B t => .inr (.inl t)
    | .C t => .inr (.inr (.inl t))
    | .D t j => .inr (.inr (.inr (t, j)))
  left_inv := by rintro (⟨b, j⟩ | t | t | ⟨t, j⟩) <;> rfl
  right_inv := by rintro (⟨b, j⟩ | t | t | ⟨t, j⟩) <;> rfl

/-- There are finitely many transfers. -/
instance : Fintype Ch := Fintype.ofEquiv _ chEquiv

/-- Where a transfer goes. -/
def tgt (c : Dev nD) : Ch → Dev nD
  | .A _ j => grpD c j
  | .B t => crsD c t
  | .C t => crsD c t
  | .D _ j => grpD c j
/-- Where a transfer comes from. -/
def frm (c : Dev nD) : Ch → Dev nD
  | .A _ j => grpD c j.rev
  | .B t => crsD c t.rev
  | .C t => crsD c t.rev
  | .D _ j => grpD c j.rev

/-- Where a transfer goes, it comes from the device that sent it. -/
theorem frm_tgt (c : Dev nD) (k : Ch) : frm (tgt c k) k = c := by
  cases k
  · exact grpD_rev c _
  · exact crsD_rev c _
  · exact crsD_rev c _
  · exact grpD_rev c _
/-- The device a transfer comes from sends it here. -/
theorem tgt_frm (c : Dev nD) (k : Ch) : tgt (frm c k) k = c := by
  cases k
  · exact grpD_rev' c _
  · exact crsD_rev' c _
  · exact crsD_rev' c _
  · exact grpD_rev' c _

/-- The chunk of the sender's buffer a transfer reads. -/
def srcIx (c : Dev nD) : Ch → Fin 16
  | .A b j => ch b (pos (grpD c j))
  | .B t => crsD c t
  | .C _ => c
  | .D t _ => ct c t

/-- The place of a transfer's send in the program. -/
def ord : Ch → ℕ
  | .A b j => 3 * b.val + j.val
  | .B t => 12 + t.val
  | .D ⟨0, _⟩ j => 15 + j.val
  | .C t => 18 + t.val
  | .D t j => 21 + 3 * (3 - t.val) + j.val

/-- The level of a transfer's landing. -/
def lvl : Ch → ℕ
  | .A _ _ => 2
  | .B _ => 3
  | .C _ => 4
  | .D _ _ => 5

/-- No two transfers are sent at the same place. -/
theorem ord_inj : Function.Injective ord := by
  have : ∀ a b : Ch, ord a = ord b → a = b := by decide +kernel
  exact fun a b => this a b

/-! ## Semaphores -/

/-- A slot of twelve is inside the array. -/
theorem inb12 (i : Fin 12) : ∀ a, (![i.val] : Fin 1 → Nat) a + S1.size a ≤ S12.size a :=
  Fin.forall_fin_one.mpr (show i.val + 1 ≤ 12 by omega)
/-- A slot of three is inside the array. -/
theorem inb3 (i : Fin 3) : ∀ a, (![i.val] : Fin 1 → Nat) a + S1.size a ≤ S3.size a :=
  Fin.forall_fin_one.mpr (show i.val + 1 ≤ 3 by omega)

/-- One semaphore of an array of twelve, as the program names it; -/
def sem12 (a : DmaSems sig S12) (i : Fin 12) : DmaSem sig :=
  ((a.slice (Rect.unit (s := S12) ![i.val] S1.size (inb12 i))).squeeze S_ squeezes_S1_S_).sem
/-- and one of an array of three. -/
def sem3 (a : DmaSems sig S3) (i : Fin 3) : DmaSem sig :=
  ((a.slice (Rect.unit (s := S3) ![i.val] S1.size (inb3 i))).squeeze S_ squeezes_S1_S_).sem

set_option backward.proofsInPublic true in
/-- The slot of the last phase's semaphores. -/
def slotD (t : Fin 4) (j : Fin 3) : Fin 12 := ⟨3 * t.val + j.val, by omega⟩

/-- The semaphore a transfer's source completes on; -/
def sndS : Ch → DmaSem sig
  | .A b j => sem12 cc0_scratch7 (slotA b j)
  | .B t => sem3 cc0_scratch9 t
  | .C t => sem3 cc0_scratch11 t
  | .D t j => sem12 cc0_scratch13 (slotD t j)
/-- the one its landing completes on. -/
def rcvS : Ch → DmaSem sig
  | .A b j => sem12 cc0_scratch8 (slotA b j)
  | .B t => sem3 cc0_scratch10 t
  | .C t => sem3 cc0_scratch12 t
  | .D t j => sem12 cc0_scratch14 (slotD t j)

/-- The number of a transfer's semaphore, its send's or its landing's. -/
def semNo : Bool × Ch → ℕ
  | (r, .A b j) => (if r then 18 else 6) + (4 * j.val + b.val)
  | (r, .B t) => (if r then 33 else 30) + t.val
  | (r, .C t) => (if r then 39 else 36) + t.val
  | (r, .D t j) => (if r then 54 else 42) + (3 * t.val + j.val)

/-- The number of a transfer's send semaphore. -/
theorem sndS_val : ∀ k : Ch, (sndS k).val = semNo (false, k) := by decide +kernel
/-- The number of a transfer's landing semaphore. -/
theorem rcvS_val : ∀ k : Ch, (rcvS k).val = semNo (true, k) := by decide +kernel
/-- Different semaphores have different numbers. -/
theorem semNo_inj : ∀ a b : Bool × Ch, semNo a = semNo b → a = b := by decide +kernel
/-- The first six numbers belong to the staging. -/
theorem semNo_ge : ∀ a : Bool × Ch, 6 ≤ semNo a := by decide +kernel

/-- The semaphores the transfers complete on, sends and landings. -/
def osem : Bool × Ch → SemLoc sig
  | (false, k) => .dma (sndS k)
  | (true, k) => .dma (rcvS k)

/-- The barrier semaphore. -/
abbrev barS : Sem sig := (SemArray.scalar (sig.barrier 0 rfl) : Sems sig S_).sem

/-- The semaphores the devices talk through: the barrier's and the transfers'. -/
def csem : Option (Bool × Ch) → SemLoc sig
  | none => .reg barS
  | some k => osem k

/-- Different sends and landings have different semaphores. -/
theorem osem_inj : Function.Injective osem := by
  rintro ⟨a, k⟩ ⟨b, l⟩ h
  apply semNo_inj
  cases a <;> cases b <;> simp only [osem, SemLoc.dma.injEq] at h <;>
    simp only [← sndS_val, ← rcvS_val, h]

/-- The same, with the barrier's. -/
theorem csem_inj : Function.Injective csem := by
  rintro (_ | ⟨a, k⟩) (_ | ⟨b, l⟩) h
  · rfl
  · cases b <;> cases h
  · cases a <;> cases h
  · exact congrArg some (osem_inj h)

/-! ## The program's device chains -/

set_option backward.proofsInPublic true in
/-- The devices the program's signals name: the group's by step, then the crossing ones. -/
def devS (c : Dev nD) : Bool × Fin 3 → Dev nD
  | (false, 0) => ⟨k0_dev1 c, k0_dev1_lt c⟩ | (true, 0) => ⟨k0_dev2 c, k0_dev2_lt c⟩
  | (false, 1) => ⟨k0_dev3 c, k0_dev3_lt c⟩ | (true, 1) => ⟨k0_dev4 c, k0_dev4_lt c⟩
  | (false, 2) => ⟨k0_dev5 c, k0_dev5_lt c⟩ | (true, 2) => ⟨k0_dev6 c, k0_dev6_lt c⟩
set_option backward.proofsInPublic true in
/-- The devices the program's transfers name. -/
def devT (c : Dev nD) : Ch → Dev nD
  | .A 0 0 => ⟨k0_dev7 c, k0_dev7_lt c⟩ | .A 0 1 => ⟨k0_dev8 c, k0_dev8_lt c⟩ | .A 0 2 => ⟨k0_dev9 c, k0_dev9_lt c⟩
  | .A 1 0 => ⟨k0_dev10 c, k0_dev10_lt c⟩ | .A 1 1 => ⟨k0_dev11 c, k0_dev11_lt c⟩ | .A 1 2 => ⟨k0_dev12 c, k0_dev12_lt c⟩
  | .A 2 0 => ⟨k0_dev13 c, k0_dev13_lt c⟩ | .A 2 1 => ⟨k0_dev14 c, k0_dev14_lt c⟩ | .A 2 2 => ⟨k0_dev15 c, k0_dev15_lt c⟩
  | .A 3 0 => ⟨k0_dev16 c, k0_dev16_lt c⟩ | .A 3 1 => ⟨k0_dev17 c, k0_dev17_lt c⟩ | .A 3 2 => ⟨k0_dev18 c, k0_dev18_lt c⟩
  | .B 0 => ⟨k0_dev19 c, k0_dev19_lt c⟩ | .B 1 => ⟨k0_dev20 c, k0_dev20_lt c⟩ | .B 2 => ⟨k0_dev21 c, k0_dev21_lt c⟩
  | .D 0 0 => ⟨k0_dev22 c, k0_dev22_lt c⟩ | .D 0 1 => ⟨k0_dev23 c, k0_dev23_lt c⟩ | .D 0 2 => ⟨k0_dev24 c, k0_dev24_lt c⟩
  | .C 0 => ⟨k0_dev25 c, k0_dev25_lt c⟩ | .C 1 => ⟨k0_dev26 c, k0_dev26_lt c⟩ | .C 2 => ⟨k0_dev27 c, k0_dev27_lt c⟩
  | .D 3 0 => ⟨k0_dev28 c, k0_dev28_lt c⟩ | .D 3 1 => ⟨k0_dev29 c, k0_dev29_lt c⟩ | .D 3 2 => ⟨k0_dev30 c, k0_dev30_lt c⟩
  | .D 2 0 => ⟨k0_dev31 c, k0_dev31_lt c⟩ | .D 2 1 => ⟨k0_dev32 c, k0_dev32_lt c⟩ | .D 2 2 => ⟨k0_dev33 c, k0_dev33_lt c⟩
  | .D 1 0 => ⟨k0_dev34 c, k0_dev34_lt c⟩ | .D 1 1 => ⟨k0_dev35 c, k0_dev35_lt c⟩ | .D 1 2 => ⟨k0_dev36 c, k0_dev36_lt c⟩

/-- The barrier's duties: one per device that signals it, inside the group or across; the device a duty's payer signals. -/
def btgt (c : Dev nD) : Bool × Fin 3 → Dev nD
  | (false, j) => grpD c j
  | (true, t) => crsD c t
/-- The device that pays a barrier duty to device `c`. -/
def bfrm (c : Dev nD) : Bool × Fin 3 → Dev nD
  | (false, j) => grpD c j.rev
  | (true, t) => crsD c t.rev

/-- Whom a device signals for a duty is signalled for it by that device. -/
theorem bfrm_btgt (c : Dev nD) : ∀ d, bfrm (btgt c d) d = c
  | (false, j) => grpD_rev c j
  | (true, t) => crsD_rev c t
/-- The device that pays a duty signals this one for it. -/
theorem btgt_bfrm (c : Dev nD) : ∀ d, btgt (bfrm c d) d = c
  | (false, j) => grpD_rev' c j
  | (true, t) => crsD_rev' c t

/-- The devices the program's signals name are the neighbours. -/
theorem devS_eq : ∀ (c : Dev nD) (d : Bool × Fin 3), devS c d = btgt c d := by decide +kernel
/-- The devices the program's transfers name are their targets. -/
theorem devT_eq : ∀ (c : Dev nD) (k : Ch), devT c k = tgt c k := by decide +kernel

/-! ## The program's offsets -/

/-- The offset of a first-phase send: the chunk of block `b` at the neighbour's position. -/
theorem off1_eq : ∀ (c : Dev nD) (b : Fin 4) (j : Fin 3),
    k0_off1 c (BitVec.ofNat 32 (4 * b.val)) (BitVec.ofNat 32 (1 + j.val)) = ![(ch b (pos (grpD c j))).val, 0, 0] := by decide +kernel
/-- The offset of the device's own chunk of block `b`. -/
theorem off2_eq : ∀ (c : Dev nD) (b : Fin 4), k0_off2 c (BitVec.ofNat 32 (4 * b.val)) = ![(ch b (pos c)).val, 0, 0] := by decide +kernel
/-- The offset of the chunk of the counterpart `t` groups further. -/
theorem off3_eq : ∀ (c : Dev nD) (t : Fin 4), k0_off3 c (BitVec.ofNat 32 t.val) = ![(ct c t).val, 0, 0] := by decide +kernel
/-- The offset of the device's own chunk in the second reduction. -/
theorem off4_eq : ∀ (c : Dev nD), k0_off4 c = ![c.val, 0, 0] := by decide +kernel
/-- The offset of the device's own chunk as it is sent across. -/
theorem off5_eq : ∀ (c : Dev nD), k0_off5 c = ![c.val, 0, 0] := by decide +kernel
/-- The offset of the four chunks of the group `t` groups further. -/
theorem off6_eq : ∀ (c : Dev nD) (t : Fin 4), k0_off6 c (BitVec.ofNat 32 t.val) = ![4 * (gr c t).val, 0, 0] := by decide +kernel
/-- The offset of that group's rows. -/
theorem off7_eq : ∀ (c : Dev nD) (t : Fin 4), k0_off7 c (BitVec.ofNat 32 t.val) = ![256 * (gr c t).val, 0] := by decide +kernel

end Cert.Moe
-- ==== Proof.Program.lean ====
/-
# 01_k — the kernel's body, as a program of stages

The printed body is the straight line of its memory operations. `body` is the same line, cut in stages that take the
block, the step or the transfer as an argument: compute a block, send, wait, sum, write out. `cc0_body_eq` says that the
printed body is it.
-/
module

public import proofs.«01_k».proof.Proof.Mesh

@[expose] public section

noncomputable section

namespace Cert.Moe

open Cert.KernelIdeal Cert.KernelIdeal.Gen
open Idealize.ShloMosaic Idealize.SL.Sem

variable {F : FTy → Type} [FloatOps F]

/-! ## The buffers -/

/-- The tokens, as staged. -/
abbrev xM : Memref sig .tc .vmem S1024x512 .f32 := Memref.whole cc0_stg0_0
/-- The router, as staged. -/
abbrev rwM : Memref sig .tc .vmem S512x64 .f32 := Memref.whole cc0_stg1_0
/-- The expert choices, as staged. -/
abbrev ixM : Memref sig .tc .vmem S1024x1 .i32 := Memref.whole cc0_stg2_0
/-- The expert weights, as staged. -/
abbrev ewM : Memref sig .tc .vmem S4x512x1024 .f32 := Memref.whole cc0_stg3_0
/-- The shared weights, as staged. -/
abbrev swM : Memref sig .tc .vmem S512x1024 .f32 := Memref.whole cc0_stg4_0
/-- The result, as staged. -/
abbrev oM : Memref sig .tc .vmem S1024x1024 .f32 := Memref.whole cc0_stg5_0
/-- The reduction buffer. -/
abbrev redM : Memref sig .tc .vmem S16x64x1024 .bf16 := Memref.whole cc0_scratch0
/-- The first phase's landing buffer. -/
abbrev aM : Memref sig .tc .vmem S12x64x1024 .bf16 := Memref.whole cc0_scratch1
/-- The second phase's landing buffer. -/
abbrev bM : Memref sig .tc .vmem S3x64x1024 .bf16 := Memref.whole cc0_scratch2
/-- The shared layer's product. -/
abbrev shM : Memref sig .tc .vmem S1024x1024 .f32 := Memref.whole cc0_scratch3
/-- The rounded tokens. -/
abbrev xbM : Memref sig .tc .vmem S1024x512 .bf16 := Memref.whole cc0_scratch4
/-- The rounded expert weights. -/
abbrev ebM : Memref sig .tc .vmem S4x512x1024 .bf16 := Memref.whole cc0_scratch5
/-- The rounded shared weights. -/
abbrev sbM : Memref sig .tc .vmem S512x1024 .bf16 := Memref.whole cc0_scratch6

/-! ## The rectangles -/

/-- A block of tokens is inside the array. -/
theorem inbX (b : Fin 4) : ∀ a, (![256 * b.val, 0] : Fin 2 → Nat) a + S256x512.size a ≤ S1024x512.size a := by revert b; decide
/-- A block of expert choices is inside the array. -/
theorem inbI (b : Fin 4) : ∀ a, (![256 * b.val, 0] : Fin 2 → Nat) a + S256x1.size a ≤ S1024x1.size a := by revert b; decide
/-- A block of the result is inside the array. -/
theorem inbO (b : Fin 4) : ∀ a, (![256 * b.val, 0] : Fin 2 → Nat) a + S256x1024.size a ≤ S1024x1024.size a := by revert b; decide
/-- One expert's weights are inside the array. -/
theorem inbE (k : Fin 4) : ∀ a, (![k.val, 0, 0] : Fin 3 → Nat) a + S1x512x1024.size a ≤ S4x512x1024.size a := by revert k; decide
/-- A group's four chunks are inside the reduction buffer. -/
theorem inbG (b : Fin 4) : ∀ a, (![4 * b.val, 0, 0] : Fin 3 → Nat) a + S4x64x1024.size a ≤ S16x64x1024.size a := by revert b; decide
/-- A chunk is inside the reduction buffer. -/
theorem inbR (r : Fin 16) : ∀ a, (![r.val, 0, 0] : Fin 3 → Nat) a + S1x64x1024.size a ≤ S16x64x1024.size a := by revert r; decide
/-- A slot is inside the first landing buffer. -/
theorem inbA (r : Fin 12) : ∀ a, (![r.val, 0, 0] : Fin 3 → Nat) a + S1x64x1024.size a ≤ S12x64x1024.size a := by revert r; decide
/-- A slot is inside the second landing buffer. -/
theorem inbB (r : Fin 3) : ∀ a, (![r.val, 0, 0] : Fin 3 → Nat) a + S1x64x1024.size a ≤ S3x64x1024.size a := by revert r; decide

/-- A slot of the first landing buffer is made of whole words. -/
theorem wordsA (i : Fin 12) : (Rect.unit (s := S12x64x1024) ![i.val, 0, 0] S1x64x1024.size (inbA i)).WholeWords (EltTy.packing .bf16) := by
  revert i; decide
/-- A slot of the second landing buffer is made of whole words. -/
theorem wordsB (i : Fin 3) : (Rect.unit (s := S3x64x1024) ![i.val, 0, 0] S1x64x1024.size (inbB i)).WholeWords (EltTy.packing .bf16) := by
  revert i; decide
/-- A group's four chunks are stored in packed rows. -/
theorem packedG (b : Fin 4) : (Rect.unit (s := S16x64x1024) ![4 * b.val, 0, 0] S4x64x1024.size (inbG b)).PackedRows (EltTy.packing .bf16) := by
  revert b; decide

/-- One chunk of the reduction buffer at the given offset, as the transfers address it. -/
abbrev redAt (off : Fin 3 → Nat) (h : ∀ a, off a + S1x64x1024.size a ≤ S16x64x1024.size a) : Memref sig .tc .vmem S64x1024 .bf16 :=
  (redM.slice (Rect.unit (s := S16x64x1024) off S1x64x1024.size h) (fun _ => rfl)).squeeze S64x1024 squeezes_S1x64x1024_S64x1024
/-- One slot of the first phase's landing buffer; -/
abbrev aRow (i : Fin 12) : Memref sig .tc .vmem S64x1024 .bf16 :=
  (aM.slice (Rect.unit (s := S12x64x1024) ![i.val, 0, 0] S1x64x1024.size (inbA i)) (fun _ => rfl)).squeeze S64x1024 squeezes_S1x64x1024_S64x1024
/-- one of the second phase's. -/
abbrev bRow (i : Fin 3) : Memref sig .tc .vmem S64x1024 .bf16 :=
  (bM.slice (Rect.unit (s := S3x64x1024) ![i.val, 0, 0] S1x64x1024.size (inbB i)) (fun _ => rfl)).squeeze S64x1024 squeezes_S1x64x1024_S64x1024

/-- What a transfer reads, as the program addresses it; -/
def srcP (c : Dev nD) : Ch → Memref sig .tc .vmem S64x1024 .bf16
  | .A b j => redAt (k0_off1 c (BitVec.ofNat 32 (4 * b.val)) (BitVec.ofNat 32 (1 + j.val))) (k0_off1_inb c b j)
  | .B t => redAt (k0_off3 c (BitVec.ofNat 32 t.succ.val)) (k0_off3_inb c t.succ)
  | .C _ => redAt (k0_off5 c) (k0_off5_inb c)
  | .D t _ => redAt (k0_off3 c (BitVec.ofNat 32 t.val)) (k0_off3_inb c t)
/-- what it writes. -/
def dstP (c : Dev nD) : Ch → Memref sig .tc .vmem S64x1024 .bf16
  | .A b j => aRow (slotA b j)
  | .B t => bRow t
  | .C t => srcP c (.C t)
  | .D t j => srcP c (.D t j)

/-- What a transfer reads is made of whole words. -/
theorem srcP_exact (c : Dev nD) : ∀ k, (srcP c k).view.WordExact
  | .A b j => ((Memref.isWhole_whole cc0_scratch0).wordExact_slice rfl _ (k0_off1_wordsbf16 c b j)).reshape _ _
  | .B t => ((Memref.isWhole_whole cc0_scratch0).wordExact_slice rfl _ (k0_off3_wordsbf16 c t.succ)).reshape _ _
  | .C _ => ((Memref.isWhole_whole cc0_scratch0).wordExact_slice rfl _ (k0_off5_wordsbf16 c)).reshape _ _
  | .D t _ => ((Memref.isWhole_whole cc0_scratch0).wordExact_slice rfl _ (k0_off3_wordsbf16 c t)).reshape _ _
/-- What a transfer writes is made of whole words. -/
theorem dstP_exact (c : Dev nD) : ∀ k, (dstP c k).view.WordExact
  | .A b j => ((Memref.isWhole_whole cc0_scratch1).wordExact_slice rfl _ (wordsA (slotA b j))).reshape _ _
  | .B t => ((Memref.isWhole_whole cc0_scratch2).wordExact_slice rfl _ (wordsB t)).reshape _ _
  | .C t => srcP_exact c (.C t)
  | .D t j => srcP_exact c (.D t j)
/-- No transfer writes to a scratch buffer of another core kind. -/
theorem dstP_notSc (c : Dev nD) : ∀ k, (dstP c k).view.ref.isScScratch = false
  | .A _ _ => rfl | .B _ => rfl | .C _ => rfl | .D _ _ => rfl

/-! ## The values stored, from the values loaded -/

/-- The device's number as the program computes it. -/
def word (c : Dev nD) : BitVec 32 := Scalar.remsi (Scalar.divsi (Dev.word c) 1#32) 16#32

/-- The partial products of one block of 256 tokens with this device's four experts. -/
def blockOf (w : BitVec 32) (xb : Vec F S256x512 .f32) (ib : Vec F S256x1 .i32) (rw : Vec F S512x64 .f32)
    (e0 e1 e2 e3 : Vec F S1x512x1024 .bf16) : FVec F S4x64x1024 .bf16 :=
  k0_pay12 (k0_pay11 (Scalar.muli w 4#32) (k0_pay6 xb) (k0_pay7 ib) (k0_pay8 xb rw) (k0_pay9 w xb ib rw) (k0_pay10 e0)
    (constant S256x1024 .f32 0x00000000#32) e1 e2 e3)
/-- The shared layer's product for one block of tokens. -/
def sharedOf (xb : Vec F S256x512 .bf16) (sw : Vec F S512x1024 .bf16) : FVec F S256x1024 .f32 := k0_pay33 xb sw
/-- The sum of four chunks. -/
def sumOf (a b c d : Vec F S1x64x1024 .bf16) : FVec F S1x64x1024 .bf16 := k0_pay36 (k0_pay35 a) b c d
/-- A block of the result: the routed sum and the shared product. -/
def outOf (r : Vec F S4x64x1024 .bf16) (s : Vec F S256x1024 .f32) : FVec F S256x1024 .f32 := k0_pay46 r s

/-! ## The stages -/

/-- A program of the kernel's body. -/
abbrev Pr (F : FTy → Type) [FloatOps F] (α : Type) := Prog (TpuEff nD τ sig (Elt F) Λ₀ .tc) α

/-- The six signals at entry. -/
def signalP (c : Dev nD) (d : Bool × Fin 3) : Pr F PUnit := semSignalWord (devS c d) barS 1#32

/-- The inputs to the products, rounded once. -/
def roundP : Pr F PUnit := do
  let v ← Prog.lift (.load xM (Rect.unit (s := S1024x512) ![0, 0] S1024x512.size inb_S1024x512_S1024x512_0_0).toLoadRect (View.loadsAt_vmem h_S1024x512))
  let _ ← Prog.lift (.load xbM (Rect.unit (s := S1024x512) ![0, 0] S1024x512.size inb_S1024x512_S1024x512_0_0).toLoadRect (View.loadsAt_vmem h_S1024x512))
  Prog.lift (.store xbM (Rect.unit (s := S1024x512) ![0, 0] S1024x512.size inb_S1024x512_S1024x512_0_0) (k0_pay2 v) Finset.univ
    (View.stores_vmem h_S1024x512 ((Memref.isWhole_whole _).storeExact_slice rfl _ packedbf16_S1024x512_S1024x512_0_0) (fun _ => rfl)) (.inl rfl))
  let v ← Prog.lift (.load ewM (Rect.unit (s := S4x512x1024) ![0, 0, 0] S4x512x1024.size inb_S4x512x1024_S4x512x1024_0_0_0).toLoadRect (View.loadsAt_vmem h_S4x512x1024))
  let _ ← Prog.lift (.load ebM (Rect.unit (s := S4x512x1024) ![0, 0, 0] S4x512x1024.size inb_S4x512x1024_S4x512x1024_0_0_0).toLoadRect (View.loadsAt_vmem h_S4x512x1024))
  Prog.lift (.store ebM (Rect.unit (s := S4x512x1024) ![0, 0, 0] S4x512x1024.size inb_S4x512x1024_S4x512x1024_0_0_0) (k0_pay4 (k0_pay3 v)) Finset.univ
    (View.stores_vmem h_S4x512x1024 ((Memref.isWhole_whole _).storeExact_slice rfl _ packedbf16_S4x512x1024_S4x512x1024_0_0_0) (fun _ => rfl)) (.inl rfl))
  let v ← Prog.lift (.load swM (Rect.unit (s := S512x1024) ![0, 0] S512x1024.size inb_S512x1024_S512x1024_0_0).toLoadRect (View.loadsAt_vmem h_S512x1024))
  let _ ← Prog.lift (.load sbM (Rect.unit (s := S512x1024) ![0, 0] S512x1024.size inb_S512x1024_S512x1024_0_0).toLoadRect (View.loadsAt_vmem h_S512x1024))
  Prog.lift (.store sbM (Rect.unit (s := S512x1024) ![0, 0] S512x1024.size inb_S512x1024_S512x1024_0_0) (k0_pay5 v) Finset.univ
    (View.stores_vmem h_S512x1024 ((Memref.isWhole_whole _).storeExact_slice rfl _ packedbf16_S512x1024_S512x1024_0_0) (fun _ => rfl)) (.inl rfl))

/-- Load one expert's rounded weights. -/
def loadE (k : Fin 4) : Pr F (Vec F S1x512x1024 .bf16) :=
  Prog.lift (.load ebM (Rect.unit (s := S4x512x1024) ![k.val, 0, 0] S1x512x1024.size (inbE k)).toLoadRect (View.loadsAt_vmem h_S1x512x1024))

/-- One block of partial products. -/
def blockP (c : Dev nD) (b : Fin 4) : Pr F PUnit := do
  let xb ← Prog.lift (.load xM (Rect.unit (s := S1024x512) ![256 * b.val, 0] S256x512.size (inbX b)).toLoadRect (View.loadsAt_vmem h_S256x512))
  let ib ← Prog.lift (.load ixM (Rect.unit (s := S1024x1) ![256 * b.val, 0] S256x1.size (inbI b)).toLoadRect (View.loadsAt_vmem h_S256x1))
  let rw ← Prog.lift (.load rwM (Rect.unit (s := S512x64) ![0, 0] S512x64.size inb_S512x64_S512x64_0_0).toLoadRect (View.loadsAt_vmem h_S512x64))
  let e0 ← loadE 0
  let e1 ← loadE 1
  let e2 ← loadE 2
  let e3 ← loadE 3
  let _ ← Prog.lift (.load redM (Rect.unit (s := S16x64x1024) ![4 * b.val, 0, 0] S4x64x1024.size (inbG b)).toLoadRect (View.loadsAt_vmem h_S4x64x1024))
  Prog.lift (.store redM (Rect.unit (s := S16x64x1024) ![4 * b.val, 0, 0] S4x64x1024.size (inbG b)) (blockOf (word c) xb ib rw e0 e1 e2 e3) Finset.univ
    (View.stores_vmem h_S4x64x1024 ((Memref.isWhole_whole _).storeExact_slice rfl _ (packedG b)) (fun _ => rfl)) (.inl rfl))

/-- One transfer's start; -/
def sendP (c : Dev nD) (k : Ch) : Pr F PUnit :=
  Prog.lift (.enqueueDma (srcP c k) (.remote (Dev.tc (devT c k)) (dstP c k) (.dma (sndS k)) (dstP_notSc c k)) (.dma (rcvS k))
    (srcP_exact c k) (dstP_exact c k) ⟨⟨rfl, Or.inl rfl⟩, trivial⟩)
/-- the wait for it to have left; -/
def waitSP (c : Dev nD) (k : Ch) : Pr F PUnit :=
  Prog.lift (.waitDma2 (sndS k) (dstP c k) (srcP c k) (dstP_exact c k) (srcP_exact c k))
/-- the wait for its counterpart's landing here. -/
def waitRP (c : Dev nD) (k : Ch) : Pr F PUnit :=
  Prog.lift (.waitDma2 (rcvS k) (srcP c k) (dstP c k) (srcP_exact c k) (dstP_exact c k))

/-- The starts of three transfers in turn; -/
def sends (c : Dev nD) (k : Fin 3 → Ch) : Pr F PUnit := do
  sendP c (k 0)
  sendP c (k 1)
  sendP c (k 2)
/-- one transfer's two waits; -/
def wait1 (c : Dev nD) (k : Ch) : Pr F PUnit := do
  waitSP c k
  waitRP c k
/-- three transfers' waits in turn. -/
def waits (c : Dev nD) (k : Fin 3 → Ch) : Pr F PUnit := do
  wait1 c (k 0)
  wait1 c (k 1)
  wait1 c (k 2)

/-- One block of the shared layer's product. -/
def sharedP (b : Fin 4) : Pr F PUnit := do
  let xb ← Prog.lift (.load xbM (Rect.unit (s := S1024x512) ![256 * b.val, 0] S256x512.size (inbX b)).toLoadRect (View.loadsAt_vmem h_S256x512))
  let sw ← Prog.lift (.load sbM (Rect.unit (s := S512x1024) ![0, 0] S512x1024.size inb_S512x1024_S512x1024_0_0).toLoadRect (View.loadsAt_vmem h_S512x1024))
  let _ ← Prog.lift (.load shM (Rect.unit (s := S1024x1024) ![256 * b.val, 0] S256x1024.size (inbO b)).toLoadRect (View.loadsAt_vmem h_S256x1024))
  Prog.lift (.store shM (Rect.unit (s := S1024x1024) ![256 * b.val, 0] S256x1024.size (inbO b)) (sharedOf xb sw) Finset.univ (View.stores_vmem_bits_univ h_S256x1024 rfl) (.inl rfl))

/-- A slot of the first phase's landing buffer; -/
def loadA (i : Fin 12) : Pr F (Vec F S1x64x1024 .bf16) :=
  Prog.lift (.load aM (Rect.unit (s := S12x64x1024) ![i.val, 0, 0] S1x64x1024.size (inbA i)).toLoadRect (View.loadsAt_vmem h_S1x64x1024))
/-- a slot of the second phase's. -/
def loadB (i : Fin 3) : Pr F (Vec F S1x64x1024 .bf16) :=
  Prog.lift (.load bM (Rect.unit (s := S3x64x1024) ![i.val, 0, 0] S1x64x1024.size (inbB i)).toLoadRect (View.loadsAt_vmem h_S1x64x1024))

/-- The group's sum of the chunk of group `b` at this device's position. -/
def sumAP (c : Dev nD) (b : Fin 4) : Pr F PUnit := do
  let v ← Prog.lift (.load redM (Rect.unit (s := S16x64x1024) (k0_off2 c (BitVec.ofNat 32 (4 * b.val))) S1x64x1024.size (k0_off2_inb c b)).toLoadRect (View.loadsAt_vmem h_S1x64x1024))
  let a0 ← loadA (slotA b 0)
  let a1 ← loadA (slotA b 1)
  let a2 ← loadA (slotA b 2)
  let _ ← Prog.lift (.load redM (Rect.unit (s := S16x64x1024) (k0_off2 c (BitVec.ofNat 32 (4 * b.val))) S1x64x1024.size (k0_off2_inb c b)).toLoadRect (View.loadsAt_vmem h_S1x64x1024))
  Prog.lift (.store redM (Rect.unit (s := S16x64x1024) (k0_off2 c (BitVec.ofNat 32 (4 * b.val))) S1x64x1024.size (k0_off2_inb c b)) (sumOf v a0 a1 a2) Finset.univ
    (View.stores_vmem h_S1x64x1024 ((Memref.isWhole_whole _).storeExact_slice rfl _ (k0_off2_packedbf16 c b)) (fun _ => rfl)) (.inl rfl))

/-- The sum over the groups of this device's chunk. -/
def sumBP (c : Dev nD) : Pr F PUnit := do
  let v ← Prog.lift (.load redM (Rect.unit (s := S16x64x1024) (k0_off4 c) S1x64x1024.size (k0_off4_inb c)).toLoadRect (View.loadsAt_vmem h_S1x64x1024))
  let a0 ← loadB 0
  let a1 ← loadB 1
  let a2 ← loadB 2
  let _ ← Prog.lift (.load redM (Rect.unit (s := S16x64x1024) (k0_off4 c) S1x64x1024.size (k0_off4_inb c)).toLoadRect (View.loadsAt_vmem h_S1x64x1024))
  Prog.lift (.store redM (Rect.unit (s := S16x64x1024) (k0_off4 c) S1x64x1024.size (k0_off4_inb c)) (sumOf v a0 a1 a2) Finset.univ
    (View.stores_vmem h_S1x64x1024 ((Memref.isWhole_whole _).storeExact_slice rfl _ (k0_off4_packedbf16 c)) (fun _ => rfl)) (.inl rfl))

/-- One block of the result. -/
def outP (c : Dev nD) (t : Fin 4) : Pr F PUnit := do
  let r ← Prog.lift (.load redM (Rect.unit (s := S16x64x1024) (k0_off6 c (BitVec.ofNat 32 t.val)) S4x64x1024.size (k0_off6_inb c t)).toLoadRect (View.loadsAt_vmem h_S4x64x1024))
  let s ← Prog.lift (.load shM (Rect.unit (s := S1024x1024) (k0_off7 c (BitVec.ofNat 32 t.val)) S256x1024.size (k0_off7_inb c t)).toLoadRect (View.loadsAt_vmem h_S256x1024))
  let _ ← Prog.lift (.load oM (Rect.unit (s := S1024x1024) (k0_off7 c (BitVec.ofNat 32 t.val)) S256x1024.size (k0_off7_inb c t)).toLoadRect (View.loadsAt_vmem h_S256x1024))
  Prog.lift (.store oM (Rect.unit (s := S1024x1024) (k0_off7 c (BitVec.ofNat 32 t.val)) S256x1024.size (k0_off7_inb c t)) (outOf r s) Finset.univ (View.stores_vmem_bits_univ h_S256x1024 rfl) (.inl rfl))

/-! ## The body -/

/-- Entry: the handshake with the six neighbours, the inputs rounded meanwhile. -/
def entryP (c : Dev nD) : Pr F PUnit := do
  signalP c (false, 0)
  signalP c (true, 0)
  signalP c (false, 1)
  signalP c (true, 1)
  signalP c (false, 2)
  signalP c (true, 2)
  roundP
  semWaitWord barS 6#32
/-- The partial products of block `b`, and their sends. -/
def makeP (c : Dev nD) (b : Fin 4) : Pr F PUnit := do
  blockP c b
  sends c (.A b)
/-- The group's sum of block `b`. -/
def reduceP (c : Dev nD) (b : Fin 4) : Pr F PUnit := do
  waits c (.A b)
  sumAP c b
/-- One step of the crossing copies: a landing, and its chunk sent on inside the group. -/
def relayP (c : Dev nD) (t : Fin 3) : Pr F PUnit := do
  wait1 c (.C t)
  sends c (.D t.rev.succ)
/-- One block's landings, and the block of the result. -/
def finishP (c : Dev nD) (t : Fin 4) : Pr F PUnit := do
  waits c (.D t)
  outP c t

/-- The body's stages after the entry: the two reductions; -/
def reduceAll (c : Dev nD) : Pr F PUnit := do
  makeP c 0
  makeP c 1
  makeP c 2
  makeP c 3
  sharedP 0
  sharedP 1
  reduceP c 0
  reduceP c 1
  reduceP c 2
  reduceP c 3
  sends c .B
  sharedP 2
  sharedP 3
  waits c .B
  sumBP c
/-- the two gathers. -/
def gatherAll (c : Dev nD) : Pr F PUnit := do
  sends c (.D 0)
  sends c .C
  relayP c 0
  relayP c 1
  relayP c 2
  finishP c 0
  finishP c 1
  finishP c 2
  finishP c 3

/-- The body. -/
def body : Pr F PUnit := do
  let c ← Prog.lift .deviceId
  entryP c
  reduceAll c
  gatherAll c

set_option maxRecDepth 65536 in
set_option maxHeartbeats 4000000 in
/-- The printed body is the staged one. -/
theorem cc0_body_eq (h0 h1 h2 h3 h4 h5 h6 h7 h8 h9 h10 h11 h12) :
    cc0_body (F := F) xM h0 rwM h1 ixM h2 ewM h3 swM h4 oM h5 redM h6 aM h7 bM h8 shM h9 xbM h10 ebM h11 sbM h12
      cc0_scratch7 cc0_scratch8 cc0_scratch9 cc0_scratch10 cc0_scratch11 cc0_scratch12 cc0_scratch13 cc0_scratch14 = body := by
  rw [cc0_body_eq_skeleton]
  rfl

end Cert.Moe
-- ==== Proof.Values.lean ====
/-
# 01_k — what the buffers hold

From the sixteen devices' inputs (`Inp`), the contents each buffer reaches: the partial products, the sums inside a
group, the finished sums, what lands where, and the result. Each is a function of the element's index, whole buffer at
once; a device holds it on the chunks it owns at the time. The lemmas at the end read and write them through the
program's rectangles.
-/
module

public import proofs.«01_k».proof.Proof.Program

@[expose] public section

noncomputable section

namespace Cert.Moe

open Cert.KernelIdeal Cert.KernelIdeal.Gen
open Idealize.ShloMosaic Idealize.ShloMosaic.ValueIdx

variable {F : FTy → Type} [FloatOps F]

/-- What one device is given. -/
structure Inp (F : FTy → Type) [FloatOps F] where
  x : Vec F S1024x512 .f32
  rw : Vec F S512x64 .f32
  ix : Vec F S1024x1 .i32
  ew : Vec F S4x512x1024 .f32
  sw : Vec F S512x1024 .f32

/-! ## Parts of arrays -/

set_option backward.proofsInPublic true in
/-- Row `256 b + r` of 1024. -/
def row (b : Fin 4) (r : Fin 256) : Fin 1024 := ⟨256 * b.val + r.val, by omega⟩
set_option backward.proofsInPublic true in
/-- The block of a row, and its place in it. -/
def rowB (i : Fin 1024) : Fin 4 := ⟨i.val / 256, by omega⟩
set_option backward.proofsInPublic true in
/-- The place of a row in its block. -/
def rowR (i : Fin 1024) : Fin 256 := ⟨i.val % 256, by omega⟩
set_option backward.proofsInPublic true in
/-- The group of a chunk, and its position in it. -/
def chB (i : Fin 16) : Fin 4 := ⟨i.val / 4, by omega⟩
set_option backward.proofsInPublic true in
/-- The position of a chunk in its group. -/
def chR (i : Fin 16) : Fin 4 := ⟨i.val % 4, by omega⟩
set_option backward.proofsInPublic true in
/-- The step and the group of a slot of the first phase's landing buffer. -/
def slJ (i : Fin 12) : Fin 3 := ⟨i.val / 4, by omega⟩
set_option backward.proofsInPublic true in
/-- The group of a slot. -/
def slB (i : Fin 12) : Fin 4 := ⟨i.val % 4, by omega⟩

/-- The block of row `r` of block `b`. -/
theorem rowB_row (b : Fin 4) (r : Fin 256) : rowB (row b r) = b := by ext; simp only [rowB, row]; omega
/-- The place of row `r` of block `b`. -/
theorem rowR_row (b : Fin 4) (r : Fin 256) : rowR (row b r) = r := by ext; simp only [rowR, row]; omega
/-- A row is the one at its place in its block. -/
theorem row_eq (i : Fin 1024) : row (rowB i) (rowR i) = i := by ext; simp only [rowB, rowR, row]; omega
/-- The group of the chunk at position `q` of group `b`. -/
theorem chB_ch (b q : Fin 4) : chB (ch b q) = b := by ext; simp only [chB, ch]; omega
/-- The position of the chunk at position `q` of group `b`. -/
theorem chR_ch (b q : Fin 4) : chR (ch b q) = q := by ext; simp only [chR, ch]; omega
/-- A chunk is the one at its position in its group. -/
theorem ch_eq (i : Fin 16) : ch (chB i) (chR i) = i := by ext; simp only [chB, chR, ch]; omega
/-- The step of the slot for a group and a step. -/
theorem slJ_slotA (b : Fin 4) (j : Fin 3) : slJ (slotA b j) = j := by ext; simp only [slJ, slotA]; omega
/-- The group of the slot for a group and a step. -/
theorem slB_slotA (b : Fin 4) (j : Fin 3) : slB (slotA b j) = b := by ext; simp only [slB, slotA]; omega
/-- A slot is the one for its group and step. -/
theorem slotA_eq (i : Fin 12) : slotA (slB i) (slJ i) = i := by ext; simp only [slJ, slB, slotA]; omega

/-- Block `b` of 256 rows. -/
def rows {n : Nat} {α : Type} (X : (⟨2, ![1024, n]⟩ : Shape).Idx → α) (b : Fin 4) : (⟨2, ![256, n]⟩ : Shape).Idx → α :=
  fun j => X (ix2 (row b (j 0)) (j 1))
/-- One part along the leading axis. -/
def part {m k n : Nat} {α : Type} (X : (⟨3, ![m, k, n]⟩ : Shape).Idx → α) (r : Fin m) : (⟨3, ![1, k, n]⟩ : Shape).Idx → α :=
  fun j => X (ix3 r (j 1) (j 2))
/-- The four chunks of group `b`. -/
def quad {α : Type} (X : S16x64x1024.Idx → α) (b : Fin 4) : S4x64x1024.Idx → α :=
  fun j => X (ix3 (ch b (j 0)) (j 1) (j 2))

/-! ## Contents -/

variable (I : Dev nD → Inp F)

/-- The rounded inputs. -/
def xbF (c : Dev nD) : Vec F S1024x512 .bf16 := k0_pay2 (I c).x
/-- The rounded expert weights. -/
def ebF (c : Dev nD) : Vec F S4x512x1024 .bf16 := k0_pay4 (k0_pay3 (I c).ew)
/-- The rounded shared weights. -/
def sbF (c : Dev nD) : Vec F S512x1024 .bf16 := k0_pay5 (I c).sw

/-- Device `c`'s partial products of block `b`; -/
def blockF (c : Dev nD) (b : Fin 4) : Vec F S4x64x1024 .bf16 :=
  blockOf (word c) (rows (I c).x b) (rows (I c).ix b) (I c).rw (part (ebF I c) 0) (part (ebF I c) 1) (part (ebF I c) 2) (part (ebF I c) 3)
/-- its partial products, all blocks. -/
def partF (c : Dev nD) : Vec F S16x64x1024 .bf16 := fun i => blockF I c (chB (i 0)) (ix3 (chR (i 0)) (i 1) (i 2))
/-- The group's sum of chunk `r`, as device `c` adds it up; -/
def sumAc (c : Dev nD) (r : Fin 16) : Vec F S1x64x1024 .bf16 :=
  sumOf (part (partF I c) r) (part (partF I (grpD c 2)) r) (part (partF I (grpD c 1)) r) (part (partF I (grpD c 0)) r)
/-- The group's sums of all chunks, as device `c` adds them up. -/
def sumAF (c : Dev nD) : Vec F S16x64x1024 .bf16 := fun i => sumAc I c (i 0) (ix3 0 (i 1) (i 2))
/-- the finished sum of chunk `r`, as device `r` adds it up. -/
def finC (r : Fin 16) : Vec F S1x64x1024 .bf16 :=
  sumOf (part (sumAF I r) r) (part (sumAF I (crsD r 2)) r) (part (sumAF I (crsD r 1)) r) (part (sumAF I (crsD r 0)) r)
/-- The finished sums of all chunks. -/
def finF : Vec F S16x64x1024 .bf16 := fun i => finC I (i 0) (ix3 0 (i 1) (i 2))
/-- What lands in the first phase, -/
def aF (c : Dev nD) : Vec F S12x64x1024 .bf16 := fun i => partF I (grpD c (slJ (i 0)).rev) (ix3 (ch (slB (i 0)) (pos c)) (i 1) (i 2))
/-- and in the second. -/
def bF (c : Dev nD) : Vec F S3x64x1024 .bf16 := fun i => sumAF I (crsD c (i 0 : Fin 3).rev) (ix3 c (i 1) (i 2))
/-- The shared layer's product. -/
def shF (c : Dev nD) : Vec F S1024x1024 .f32 :=
  fun i => sharedOf (rows (xbF I c) (rowB (i 0))) (sbF I c) (ix2 (rowR (i 0)) (i 1))
/-- The result. -/
def outF (c : Dev nD) : Vec F S1024x1024 .f32 :=
  fun i => outOf (quad (finF I) (rowB (i 0))) (rows (shF I c) (rowB (i 0))) (ix2 (rowR (i 0)) (i 1))

/-! ## Contents part by part -/

/-- Indices of three axes agree when their coordinates do. -/
theorem ext_ix3 {n0 n1 n2 : Nat} {i j : (⟨3, ![n0, n1, n2]⟩ : Shape).Idx} (h0 : (i 0).val = (j 0).val)
    (h1 : (i 1).val = (j 1).val) (h2 : (i 2).val = (j 2).val) : i = j := by
  funext a; match a with | ⟨0, _⟩ => exact Fin.ext h0 | ⟨1, _⟩ => exact Fin.ext h1 | ⟨2, _⟩ => exact Fin.ext h2
/-- Indices of two axes agree when their coordinates do. -/
theorem ext_ix2 {n0 n1 : Nat} {i j : (⟨2, ![n0, n1]⟩ : Shape).Idx} (h0 : (i 0).val = (j 0).val) (h1 : (i 1).val = (j 1).val) : i = j := by
  funext a; match a with | ⟨0, _⟩ => exact Fin.ext h0 | ⟨1, _⟩ => exact Fin.ext h1

/-- The four chunks of a block of partial products. -/
theorem quad_partF (c : Dev nD) (b : Fin 4) : quad (partF I c) b = blockF I c b := by
  have key : ∀ (q : Fin 4) (u : Fin 64) (v : Fin 1024), blockF I c (chB (ch b q)) (ix3 (chR (ch b q)) u v) = blockF I c b (ix3 q u v) :=
    fun q u v => by rw [chB_ch, chR_ch]
  exact funext fun j => (key (j 0) (j 1) (j 2)).trans (congrArg _ (eq_ix3 j).symm)

/-- A chunk of three axes, the first of one element, by its other two. -/
theorem eq_ix3_zero (j : S1x64x1024.Idx) : ix3 (0 : Fin 1) (j 1) (j 2) = j :=
  ext_ix3 (show (0 : ℕ) = (j 0).val by have : (j 0).val < 1 := (j 0).isLt; omega) rfl rfl

/-- One chunk of the group's sums. -/
theorem part_sumAF (c : Dev nD) (r : Fin 16) : part (sumAF I c) r = sumAc I c r := by
  exact funext fun j => congrArg (sumAc I c r) (eq_ix3_zero j)
/-- One chunk of the finished sums. -/
theorem part_finF (r : Fin 16) : part (finF I) r = finC I r := by
  exact funext fun j => congrArg (finC I r) (eq_ix3_zero j)
/-- A slot of the first landing buffer: a neighbour's partial product of the device's own chunk of a block. -/
theorem part_aF (c : Dev nD) (b : Fin 4) (j : Fin 3) : part (aF I c) (slotA b j) = part (partF I (grpD c j.rev)) (ch b (pos c)) := by
  have key : ∀ (u : Fin 64) (v : Fin 1024), partF I (grpD c (slJ (slotA b j)).rev) (ix3 (ch (slB (slotA b j)) (pos c)) u v)
      = partF I (grpD c j.rev) (ix3 (ch b (pos c)) u v) := fun u v => by rw [slJ_slotA, slB_slotA]
  exact funext fun i => key (i 1) (i 2)
/-- A slot of the second landing buffer: a crossing neighbour's sum of the device's own chunk. -/
theorem part_bF (c : Dev nD) (t : Fin 3) : part (bF I c) t = part (sumAF I (crsD c t.rev)) c := rfl
/-- One block of the shared product. -/
theorem rows_shF (c : Dev nD) (b : Fin 4) : rows (shF I c) b = sharedOf (rows (xbF I c) b) (sbF I c) := by
  have key : ∀ (r : Fin 256) (l : Fin 1024), sharedOf (rows (xbF I c) (rowB (row b r))) (sbF I c) (ix2 (rowR (row b r)) l)
      = sharedOf (rows (xbF I c) b) (sbF I c) (ix2 r l) := fun r l => by rw [rowB_row, rowR_row]
  exact funext fun j => (key (j 0) (j 1)).trans (congrArg _ (eq_ix2 j).symm)
/-- One block of the result. -/
theorem rows_outF (c : Dev nD) (b : Fin 4) : rows (outF I c) b = outOf (quad (finF I) b) (rows (shF I c) b) := by
  have key : ∀ (r : Fin 256) (l : Fin 1024), outOf (quad (finF I) (rowB (row b r))) (rows (shF I c) (rowB (row b r))) (ix2 (rowR (row b r)) l)
      = outOf (quad (finF I) b) (rows (shF I c) b) (ix2 r l) := fun r l => by rw [rowB_row, rowR_row]
  exact funext fun j => (key (j 0) (j 1)).trans (congrArg _ (eq_ix2 j).symm)

/-- A group's sum of its own chunk, with the landed parts; -/
theorem sumAc_eq (c : Dev nD) (b : Fin 4) :
    sumOf (part (partF I c) (ch b (pos c))) (part (aF I c) (slotA b 0)) (part (aF I c) (slotA b 1)) (part (aF I c) (slotA b 2))
      = sumAc I c (ch b (pos c)) := by
  rw [part_aF, part_aF, part_aF]; rfl
/-- the finished sum, with the landed parts. -/
theorem finC_eq (c : Dev nD) :
    sumOf (part (sumAF I c) c) (part (bF I c) 0) (part (bF I c) 1) (part (bF I c) 2) = finC I c := by
  rw [part_bF, part_bF, part_bF]; rfl

/-! ## Rectangles -/

/-- A whole-width rectangle of 256 rows reads a block of rows; -/
theorem emb_rows {n : Nat} {off : Fin 2 → Nat} (h : ∀ a, off a + (⟨2, ![256, n]⟩ : Shape).size a ≤ (⟨2, ![1024, n]⟩ : Shape).size a)
    {b : Fin 4} (ho : off = ![256 * b.val, 0]) (j : (⟨2, ![256, n]⟩ : Shape).Idx) :
    (Rect.unit (s := ⟨2, ![1024, n]⟩) off (⟨2, ![256, n]⟩ : Shape).size h).emb j = ix2 (row b (j 0)) (j 1) := by
  subst ho
  refine ext_ix2 ?_ ?_
  · show 256 * b.val + 1 * (j 0).val = 256 * b.val + (j 0).val; omega
  · show 0 + 1 * (j 1).val = (j 1).val; omega
/-- one of a single leading part reads that part; -/
theorem emb_part {m k n : Nat} {off : Fin 3 → Nat} (h : ∀ a, off a + (⟨3, ![1, k, n]⟩ : Shape).size a ≤ (⟨3, ![m, k, n]⟩ : Shape).size a)
    {r : Fin m} (ho : off = ![r.val, 0, 0]) (j : (⟨3, ![1, k, n]⟩ : Shape).Idx) :
    (Rect.unit (s := ⟨3, ![m, k, n]⟩) off (⟨3, ![1, k, n]⟩ : Shape).size h).emb j = ix3 r (j 1) (j 2) := by
  subst ho
  refine ext_ix3 ?_ ?_ ?_
  · show r.val + 1 * (j 0).val = r.val
    have : (j 0).val < 1 := (j 0).isLt
    omega
  · show 0 + 1 * (j 1).val = (j 1).val; omega
  · show 0 + 1 * (j 2).val = (j 2).val; omega
/-- one of four leading chunks reads a group's four. -/
theorem emb_quad {off : Fin 3 → Nat} (h : ∀ a, off a + S4x64x1024.size a ≤ S16x64x1024.size a)
    {b : Fin 4} (ho : off = ![4 * b.val, 0, 0]) (j : S4x64x1024.Idx) :
    (Rect.unit (s := S16x64x1024) off S4x64x1024.size h).emb j = ix3 (ch b (j 0)) (j 1) (j 2) := by
  subst ho
  refine ext_ix3 ?_ ?_ ?_
  · show 4 * b.val + 1 * (j 0).val = 4 * b.val + (j 0).val; omega
  · show 0 + 1 * (j 1).val = (j 1).val; omega
  · show 0 + 1 * (j 2).val = (j 2).val; omega

/-! ### The elements of the parts -/

/-- An index's place along the leading axis. -/
def lead {m k n : Nat} (i : (⟨3, ![m, k, n]⟩ : Shape).Idx) : Fin m := i 0

/-- The elements of a block of rows, -/
def rowsS (n : Nat) (b : Fin 4) : Finset (⟨2, ![1024, n]⟩ : Shape).Idx := {i | rowB (i 0) = b}
/-- of a part along the leading axis, -/
def partS (m k n : Nat) (r : Fin m) : Finset (⟨3, ![m, k, n]⟩ : Shape).Idx := {i | lead i = r}
/-- of a group's four chunks. -/
def quadS (b : Fin 4) : Finset S16x64x1024.Idx := {i | chB (i 0) = b}

/-- A rectangle of 256 rows covers a block of rows. -/
theorem set_rows {n : Nat} {off : Fin 2 → Nat} (h : ∀ a, off a + (⟨2, ![256, n]⟩ : Shape).size a ≤ (⟨2, ![1024, n]⟩ : Shape).size a)
    {b : Fin 4} (ho : off = ![256 * b.val, 0]) :
    (Rect.unit (s := ⟨2, ![1024, n]⟩) off (⟨2, ![256, n]⟩ : Shape).size h).set = rowsS n b := by
  rw [← Rect.map_emb_univ]
  ext i
  simp only [Finset.mem_map, Finset.mem_univ, true_and, rowsS, Finset.mem_filter]
  constructor
  · rintro ⟨j, rfl⟩; rw [emb_rows h ho]; exact rowB_row _ _
  · intro hb
    refine ⟨ix2 (rowR (i 0)) (i 1), ?_⟩
    rw [emb_rows h ho]
    have key : ∀ r : Fin 1024, rowB r = b → row b (rowR r) = r := fun r h => by rw [← h, row_eq]
    exact (congrArg (ix2 · (i 1)) (key (i 0) hb)).trans (eq_ix2 i).symm
/-- A rectangle of a single leading part covers that part. -/
theorem set_part {m k n : Nat} {off : Fin 3 → Nat} (h : ∀ a, off a + (⟨3, ![1, k, n]⟩ : Shape).size a ≤ (⟨3, ![m, k, n]⟩ : Shape).size a)
    {r : Fin m} (ho : off = ![r.val, 0, 0]) :
    (Rect.unit (s := ⟨3, ![m, k, n]⟩) off (⟨3, ![1, k, n]⟩ : Shape).size h).set = partS m k n r := by
  rw [← Rect.map_emb_univ]
  ext i
  simp only [Finset.mem_map, Finset.mem_univ, true_and, partS, Finset.mem_filter]
  constructor
  · rintro ⟨j, rfl⟩; rw [emb_part h ho]; rfl
  · intro hb
    refine ⟨ix3 (0 : Fin 1) (i 1) (i 2), ?_⟩
    rw [emb_part h ho, ← hb]
    exact (eq_ix3 i).symm
/-- A rectangle of four leading chunks covers a group's four. -/
theorem set_quad {off : Fin 3 → Nat} (h : ∀ a, off a + S4x64x1024.size a ≤ S16x64x1024.size a)
    {b : Fin 4} (ho : off = ![4 * b.val, 0, 0]) :
    (Rect.unit (s := S16x64x1024) off S4x64x1024.size h).set = quadS b := by
  rw [← Rect.map_emb_univ]
  ext i
  simp only [Finset.mem_map, Finset.mem_univ, true_and, quadS, Finset.mem_filter]
  constructor
  · rintro ⟨j, rfl⟩; rw [emb_quad h ho]; exact chB_ch _ _
  · intro hb
    refine ⟨ix3 (chR (i 0)) (i 1) (i 2), ?_⟩
    rw [emb_quad h ho]
    have key : ∀ r : Fin 16, chB r = b → ch b (chR r) = r := fun r h => by rw [← h, ch_eq]
    exact (congrArg (ix3 · (i 1) (i 2)) (key (i 0) hb)).trans (eq_ix3 i).symm

/-- Different blocks of rows are apart. -/
theorem rowsS_disj (n : Nat) (b b' : Fin 4) (h : b ≠ b') : Disjoint (rowsS n b) (rowsS n b') := by
  rw [Finset.disjoint_left]; intro i h1 h2
  exact h ((Finset.mem_filter.mp h1).2.symm.trans (Finset.mem_filter.mp h2).2)
/-- The blocks of rows are all rows. -/
theorem rowsS_cover (n : Nat) : Finset.univ.biUnion (rowsS n) = Finset.univ := by
  ext i; simp [rowsS]
/-- Different parts are apart. -/
theorem partS_disj (m k n : Nat) (b b' : Fin m) (h : b ≠ b') : Disjoint (partS m k n b) (partS m k n b') := by
  rw [Finset.disjoint_left]; intro i h1 h2
  exact h ((Finset.mem_filter.mp h1).2.symm.trans (Finset.mem_filter.mp h2).2)
/-- The parts are the whole. -/
theorem partS_cover (m k n : Nat) : Finset.univ.biUnion (partS m k n) = Finset.univ :=
  Finset.eq_univ_iff_forall.mpr fun i => Finset.mem_biUnion.mpr ⟨lead i, Finset.mem_univ _, Finset.mem_filter.mpr ⟨Finset.mem_univ _, rfl⟩⟩
/-- Different groups of chunks are apart. -/
theorem quadS_disj (b b' : Fin 4) (h : b ≠ b') : Disjoint (quadS b) (quadS b') := by
  rw [Finset.disjoint_left]; intro i h1 h2
  exact h ((Finset.mem_filter.mp h1).2.symm.trans (Finset.mem_filter.mp h2).2)
/-- The groups of chunks are the whole buffer. -/
theorem quadS_cover : Finset.univ.biUnion quadS = Finset.univ := by
  ext i; simp [quadS]
/-- The chunks of one group are apart. -/
theorem quadS_parts_disj (b : Fin 4) (q q' : Fin 4) (h : q ≠ q') : Disjoint (partS 16 64 1024 (ch b q)) (partS 16 64 1024 (ch b q')) :=
  partS_disj 16 64 1024 _ _ fun e => h (by rw [← chR_ch b q, e, chR_ch])
/-- The four chunks of a group are the group. -/
theorem quadS_parts (b : Fin 4) : Finset.univ.biUnion (fun q => partS 16 64 1024 (ch b q)) = quadS b := by
  ext i
  simp only [Finset.mem_biUnion, Finset.mem_univ, true_and, partS, quadS, Finset.mem_filter]
  constructor
  · rintro ⟨q, hq⟩; exact (congrArg chB hq).trans (chB_ch b q)
  · intro hb
    have key : ∀ r : Fin 16, chB r = b → r = ch b (chR r) := fun r h => by rw [← h, ch_eq]
    exact ⟨chR (i 0), key (i 0) hb⟩

end Cert.Moe
-- ==== Proof.Sched.lean ====
/-
# 01_k — the protocol

Each device's semaphores, as cells with one round each: which duties are owed on them, what a duty hands over, the
level of a wait. A device's barrier has six duties, one per neighbour; the payer hands over the part of its landing
buffers the device will write. A transfer's send cell gives back what the transfer still needs of its source; its
landing cell hands over the written part, and in the reductions also the part of the sender's buffer it read, to
which the gathers write later.
-/
module

public import proofs.«01_k».proof.Proof.Values
public import proofs.«01_k».proof.Proof.Gen.KernelIdeal.Launch
public import Idealize.ShloMosaic.Lib.Pipeline.Launch
public import Idealize.ShloMosaic.Lib.Pipeline.Kit
public import Idealize.ShloMosaic.Lib.Ring.Trips
public import Idealize.ShloMosaic.Lib.Tactic

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- Duties are named by a neighbour; a transfer's cells use the first name only. -/
abbrev Duty : Type := Bool × Fin 3
/-- The duty name that a transfer's cells use. -/
abbrev d0 : Duty := (false, 0)

/-- The protocol's ghost state. -/
abbrev UB : Type := URounds (GSem nD τ sig) Duty
/-- The ghost state of the staging and of the protocol together. -/
abbrev UU : Type := UR sig nD τ × UB

local notation "𝕄" => MT nD τ sig Unit (Elt F) ℕ UU ℕ

/-- The staging's part of it. -/
abbrev EP : Emb (UR sig nD τ) (MT nD τ sig Unit (Elt F) ℕ UU ℕ) := embL
/-- The protocol's part of it. -/
abbrev ER : Emb UB (MT nD τ sig Unit (Elt F) ℕ UU ℕ) := embR

/-! ## Parts of the buffers -/

/-- A chunk of device `c`'s reduction buffer at a share; a group's four chunks; slots of the landing buffers. -/
def redP (c : Dev nD) (r : Fin 16) (q : PosShare TreeShare) (f : Vec F S16x64x1024 .bf16) : sProp 𝕄 :=
  ((c : Thread nD τ).loc cc0_scratch0) ↦[partS 16 64 1024 r]{q} f
/-- The four chunks of a group in device `c`'s reduction buffer. -/
def redQ (c : Dev nD) (b : Fin 4) (f : Vec F S16x64x1024 .bf16) : sProp 𝕄 :=
  ((c : Thread nD τ).loc cc0_scratch0) ↦[quadS b]{fullShare} f
/-- A slot of device `c`'s first landing buffer. -/
def aP (c : Dev nD) (i : Fin 12) (f : Vec F S12x64x1024 .bf16) : sProp 𝕄 :=
  ((c : Thread nD τ).loc cc0_scratch1) ↦[partS 12 64 1024 i]{fullShare} f
/-- A slot of device `c`'s second landing buffer. -/
def bP (c : Dev nD) (i : Fin 3) (f : Vec F S3x64x1024 .bf16) : sProp 𝕄 :=
  ((c : Thread nD τ).loc cc0_scratch2) ↦[partS 3 64 1024 i]{fullShare} f
/-- The same, whatever they hold. -/
def redE (c : Dev nD) (r : Fin 16) : sProp 𝕄 := iprop(∃ f : Vec F S16x64x1024 .bf16, redP c r fullShare f)
/-- A slot of the first landing buffer, whatever it holds. -/
def aE (c : Dev nD) (i : Fin 12) : sProp 𝕄 := iprop(∃ f : Vec F S12x64x1024 .bf16, aP c i f)
/-- A slot of the second landing buffer, whatever it holds. -/
def bE (c : Dev nD) (i : Fin 3) : sProp 𝕄 := iprop(∃ f : Vec F S3x64x1024 .bf16, bP c i f)

omit [FloatOps F] in
/-- A chunk may be kept in an invariant. -/
instance redP_storable (c : Dev nD) (r q f) : BI.Storable (upEmb : UEmb _ 𝕄) (redP (F := F) c r q f) := by unfold redP; infer_instance
omit [FloatOps F] in
/-- A slot of the first landing buffer may be kept in an invariant. -/
instance aP_storable (c : Dev nD) (i f) : BI.Storable (upEmb : UEmb _ 𝕄) (aP (F := F) c i f) := by unfold aP; infer_instance
omit [FloatOps F] in
/-- A slot of the second landing buffer may be kept in an invariant. -/
instance bP_storable (c : Dev nD) (i f) : BI.Storable (upEmb : UEmb _ 𝕄) (bP (F := F) c i f) := by unfold bP; infer_instance
omit [FloatOps F] in
/-- A chunk of any contents may be kept in an invariant. -/
instance redE_storable (c : Dev nD) (r) : BI.Storable (upEmb : UEmb _ 𝕄) (redE (F := F) c r) := by unfold redE; infer_instance
omit [FloatOps F] in
/-- A slot of the first landing buffer, of any contents, may be kept in an invariant. -/
instance aE_storable (c : Dev nD) (i) : BI.Storable (upEmb : UEmb _ 𝕄) (aE (F := F) c i) := by unfold aE; infer_instance
omit [FloatOps F] in
/-- A slot of the second landing buffer, of any contents, may be kept in an invariant. -/
instance bE_storable (c : Dev nD) (i) : BI.Storable (upEmb : UEmb _ 𝕄) (bE (F := F) c i) := by unfold bE; infer_instance

/-- The shares of a finished chunk that its group copies and its crossing copies read. -/
def shD (j : Fin 3) : PosShare TreeShare := Ring.shares3 fullShare.left j
/-- The share of a finished chunk that one of its crossing copies reads. -/
def shC (t : Fin 3) : PosShare TreeShare := Ring.shares3 fullShare.right t

/-- Three things, four things. -/
def three (Φ : Fin 3 → sProp 𝕄) : sProp 𝕄 := iprop(Φ 0 ∗ Φ 1 ∗ Φ 2)
/-- Four things. -/
def four (Φ : Fin 4 → sProp 𝕄) : sProp 𝕄 := iprop(Φ 0 ∗ Φ 1 ∗ Φ 2 ∗ Φ 3)

omit [FloatOps F] in
/-- Three things that may be kept in an invariant may be kept together. -/
instance three_storable (Φ : Fin 3 → sProp 𝕄) [∀ i, BI.Storable (upEmb : UEmb _ 𝕄) (Φ i)] : BI.Storable (upEmb : UEmb _ 𝕄) (three Φ) := by
  unfold three; infer_instance
omit [FloatOps F] in
/-- Four things that may be kept in an invariant may be kept together. -/
instance four_storable (Φ : Fin 4 → sProp 𝕄) [∀ i, BI.Storable (upEmb : UEmb _ 𝕄) (Φ i)] : BI.Storable (upEmb : UEmb _ 𝕄) (four Φ) := by
  unfold four; infer_instance

omit [FloatOps F] in
/-- Things over three indices are three things. -/
theorem bigSep_three (Φ : Fin 3 → sProp 𝕄) : bigSep Finset.univ Φ = three Φ := bigSep_univ_eq_bigSepL [0, 1, 2] (by decide) (by decide) Φ
omit [FloatOps F] in
/-- Things over four indices are four things. -/
theorem bigSep_four (Φ : Fin 4 → sProp 𝕄) : bigSep Finset.univ Φ = four Φ := bigSep_univ_eq_bigSepL [0, 1, 2, 3] (by decide) (by decide) Φ

/-! ## Cells -/

/-- A cell of device `c` by its name. -/
abbrev cellOf' (c : Dev nD) (k : Option (Bool × Ch)) : GSem nD τ sig := ((c : Thread nD τ), csem k)
/-- A device's barrier cell. -/
abbrev barCell (c : Dev nD) : GSem nD τ sig := cellOf' c none
/-- The cell of a transfer's send. -/
abbrev sndCell (c : Dev nD) (k : Ch) : GSem nD τ sig := cellOf' c (some (false, k))
/-- The cell of a transfer's landing. -/
abbrev rcvCell (c : Dev nD) (k : Ch) : GSem nD τ sig := cellOf' c (some (true, k))

/-- Which cell a semaphore is. -/
def dec (s : SemLoc sig) : Option (Option (Bool × Ch)) := Function.partialInv csem s
/-- A named cell is recognised. -/
theorem dec_csem (k) : dec (csem k) = some k := Function.partialInv_left csem_inj k
/-- The staging's semaphores are no cells of the protocol. -/
theorem dec_stage (q : DmaSem sig) (h : q.val < 6) : dec (.dma q) = none := by
  unfold dec Function.partialInv
  refine dif_neg ?_
  rintro ⟨_ | ⟨a, k⟩, hk⟩
  · cases hk
  · cases a <;> simp only [csem, osem, SemLoc.dma.injEq] at hk <;> subst hk
    · have := semNo_ge (false, k); rw [← sndS_val] at this; omega
    · have := semNo_ge (true, k); rw [← rcvS_val] at this; omega

/-- What a transfer adds to its semaphores. -/
abbrev N : ℕ := (aRow 0).view.dmaCredit
/-- A transfer adds something. -/
theorem N_pos : 0 < N := View.dmaCredit_pos _ (by decide)
/-- Every transfer adds the same, by what it writes, -/
theorem dst_credit (c : Dev nD) : ∀ k, (dstP c k).view.dmaCredit = N
  | .A _ _ => rfl | .B _ => rfl | .C _ => rfl | .D _ _ => rfl
/-- Every transfer adds the same, by what it reads. -/
theorem src_credit (c : Dev nD) : ∀ k, (srcP c k).view.dmaCredit = N
  | .A _ _ => rfl | .B _ => rfl | .C _ => rfl | .D _ _ => rfl

/-! ## What the duties hand over -/

variable (I : Dev nD → Inp F)

/-- What device `c` gets with a neighbour's signal: the parts of that neighbour's landing buffers it will write. -/
def barPay (c : Dev nD) : Duty → sProp 𝕄
  | (false, j) => four fun b => aE (grpD c j.rev) (slotA b j.rev)
  | (true, t) => bE (crsD c t.rev) t.rev
/-- What a transfer's source completion gives back. -/
def sendPay (c : Dev nD) : Ch → sProp 𝕄
  | .A _ _ => iprop(emp)
  | .B _ => iprop(emp)
  | .C t => redP c c (shC t) (finF I)
  | .D t j => redP c (ct c t) (shD j) (finF I)
/-- What a landing on device `c` hands over. -/
def recvPay (c : Dev nD) : Ch → sProp 𝕄
  | .A b j => iprop(aP c (slotA b j) (aF I c) ∗ redE (grpD c j.rev) (ch b (pos c)))
  | .B t => iprop(bP c t (bF I c) ∗ redE (crsD c t.rev) c)
  | .C t => redP c (crsD c t.rev) fullShare (finF I)
  | .D t j => redP c (ct (grpD c j.rev) t) fullShare (finF I)

/-- The duties, amounts and payloads of a cell by its name. -/
def dutiesOf : Option (Option (Bool × Ch)) → Finset Duty
  | none => ∅
  | some none => Finset.univ
  | some (some _) => {d0}
/-- The amount each duty of a cell pays. -/
def amountOf : Option (Option (Bool × Ch)) → ℕ
  | some (some _) => N
  | _ => 1
/-- The payload of a cell's duty. -/
def payOf (c : Dev nD) (d : Duty) : Option (Option (Bool × Ch)) → sProp 𝕄
  | none => iprop(emp)
  | some none => barPay c d
  | some (some (false, k)) => sendPay I c k
  | some (some (true, k)) => recvPay I c k

/-- The protocol: one round per cell. -/
def rd : Rounds.Schedule (GSem nD τ sig) Duty 𝕄 where
  duties g r := if r = 0 ∧ g.1.2 = .tc then dutiesOf (dec g.2) else ∅
  unitless _ := False
  amount g _ _ := amountOf (dec g.2)
  payload g _ d := payOf I g.1.1 d (dec g.2)
  amount_pos g _ _ _ := by
    rcases dec g.2 with _ | _ | _
    · exact Nat.one_pos
    · exact Nat.one_pos
    · exact N_pos

omit [FloatOps F] in
/-- A signal's payload may be kept in an invariant. -/
instance barPay_storable (c : Dev nD) (d) : BI.Storable (upEmb : UEmb _ 𝕄) (barPay (F := F) c d) := by
  rcases d with ⟨_ | _, j⟩ <;> unfold barPay <;> infer_instance
/-- A send's payload may be kept in an invariant. -/
instance sendPay_storable (c : Dev nD) (k) : BI.Storable (upEmb : UEmb _ 𝕄) (sendPay I c k) := by
  cases k <;> unfold sendPay <;> infer_instance
/-- A landing's payload may be kept in an invariant. -/
instance recvPay_storable (c : Dev nD) (k) : BI.Storable (upEmb : UEmb _ 𝕄) (recvPay I c k) := by
  cases k <;> unfold recvPay <;> infer_instance
/-- Any cell's payload may be kept in an invariant. -/
instance payOf_storable (c : Dev nD) (d) (o) : BI.Storable (upEmb : UEmb _ 𝕄) (payOf I c d o) := by
  rcases o with _ | _ | ⟨_ | _, k⟩ <;> unfold payOf <;> infer_instance
/-- The protocol's payloads may be kept in invariants. -/
instance rd_storable (g : GSem nD τ sig) (r : ℕ) (d : Duty) : BI.Storable (upEmb : UEmb _ 𝕄) ((rd I).payload g r d) :=
  payOf_storable I g.1.1 d (dec g.2)

section Sched
variable (c : Dev nD)

/-- The duties of a named cell. -/
theorem duties_eq (k) : (rd I).duties (cellOf' c k) 0 = dutiesOf (some k) := by
  show (if (0 : ℕ) = 0 ∧ (cellOf' c k).1.2 = Proc.tc then dutiesOf (dec (csem k)) else ∅) = _
  rw [if_pos ⟨rfl, rfl⟩, dec_csem]
/-- No cell has duties after its first round. -/
theorem duties_later (g : GSem nD τ sig) : ∀ r, 1 ≤ r → (rd I).duties g r = ∅ :=
  fun r hr => if_neg fun h => by omega
/-- The amounts of a named cell. -/
theorem amount_eq (k) (r : ℕ) (d : Duty) : (rd I).amount (cellOf' c k) r d = amountOf (some k) := by
  show amountOf (dec (csem k)) = _; rw [dec_csem]
/-- The payloads of a named cell. -/
theorem payload_eq (k) (r : ℕ) (d : Duty) : (rd I).payload (cellOf' c k) r d = payOf I c d (some k) := by
  show payOf I c d (dec (csem k)) = _; rw [dec_csem]
/-- A barrier cell expects six signals. -/
theorem expect_bar : (rd I).expect (barCell c) 0 = 6 := by
  unfold Schedule.expect Schedule.amountOf
  rw [duties_eq, Finset.sum_congr rfl fun d _ => amount_eq I c none 0 d]
  rfl
/-- A transfer's cell expects one transfer's credit. -/
theorem expect_xfer (k : Bool × Ch) : (rd I).expect (cellOf' c (some k)) 0 = N := by
  unfold Schedule.expect Schedule.amountOf
  rw [duties_eq]
  exact (Finset.sum_singleton _ _).trans (amount_eq I c (some k) 0 d0)
/-- All the payloads of a transfer's cell: its one payload. -/
theorem rest_xfer (k : Bool × Ch) : bigSep ((rd I).duties (cellOf' c (some k)) 0 \ ∅) (fun d => (rd I).payload (cellOf' c (some k)) 0 d)
    = payOf I c d0 (some (some k)) := by
  rw [Finset.sdiff_empty, duties_eq]
  exact (bigSep_singleton (i := d0)).trans (payload_eq I c (some k) 0 d0)
/-- All the payloads of a barrier cell: three group neighbours' and three crossing neighbours'. -/
theorem rest_bar : bigSep ((rd I).duties (barCell c) 0 \ ∅) (fun d => (rd I).payload (barCell c) 0 d)
    = iprop(three (fun j => barPay c (false, j)) ∗ three (fun t => barPay c (true, t))) := by
  rw [Finset.sdiff_empty, duties_eq]
  refine (bigSep_congr fun d _ => payload_eq I c none 0 d).trans ?_
  show bigSep (Finset.univ : Finset (Bool × Fin 3)) (fun d => barPay c d) = _
  rw [bigSep_univ_prod, bigSep_univ_eq_bigSepL [false, true] (by decide) (by decide), bigSepL_cons_cons, bigSepL_singleton, bigSep_three, bigSep_three]
  rfl

end Sched

/-! ## What is owed, and the levels -/

/-- What a device owes: a signal to each neighbour, a landing per transfer. -/
abbrev Due : Type := Duty ⊕ Ch

/-- The place in the program where it is paid. -/
def dord : Due → ℕ
  | .inl (x, j) => 2 * j.val + x.toNat
  | .inr k => 6 + ord k
/-- No two dues are paid at the same place. -/
theorem dord_inj : Function.Injective dord := by
  have h : ∀ a b : Duty, dord (.inl a) = dord (.inl b) → a = b := by decide
  have h6 : ∀ a : Duty, dord (.inl a) < 6 := by decide
  rintro (a | a) (b | b) hab
  · exact congrArg _ (h a b hab)
  · have := h6 a; have : dord (.inr b : Due) = 6 + ord b := rfl; omega
  · have := h6 b; have : dord (.inr a : Due) = 6 + ord a := rfl; omega
  · exact congrArg _ (ord_inj (by have : 6 + ord a = 6 + ord b := hab; omega))

/-- The cell it is paid to, by whom it is owed. -/
def dcell (c : Dev nD) : Due → GSem nD τ sig
  | .inl d => barCell (btgt c d)
  | .inr k => rcvCell (tgt c k) k
/-- What a due adds, and to which cell. -/
def dtally (c : Dev nD) : Due → CellTallies nD τ sig Unit
  | .inl d => tallyAt (barCell (btgt c d)) () 1
  | .inr k => tallyAt (rcvCell (tgt c k) k) () N
/-- What is still owed at place `n`. -/
def owed (c : Dev nD) (n : ℕ) : CellTallies nD τ sig Unit := ∑ d ∈ Finset.univ.filter (fun d => n ≤ dord d), dtally c d

/-- Paying the due of a place lowers what is owed by that due. -/
theorem owed_step (c : Dev nD) (d : Due) : owed c (dord d) = owed c (dord d + 1) + dtally c d := by
  unfold owed
  have : Finset.univ.filter (fun e => dord d ≤ dord e) = insert d (Finset.univ.filter fun e => dord d + 1 ≤ dord e) := by
    ext e
    simp only [Finset.mem_filter, Finset.mem_univ, true_and, Finset.mem_insert]
    constructor
    · intro h
      rcases Nat.lt_or_ge (dord d) (dord e) with h' | h'
      · exact .inr h'
      · exact .inl (dord_inj (le_antisymm h' h))
    · rintro (rfl | h)
      · exact le_rfl
      · omega
  rw [this, Finset.sum_insert (by simp), add_comm]
/-- At the end nothing is owed. -/
theorem owed_none (c : Dev nD) : owed c 36 = 0 := by
  unfold owed
  rw [Finset.sum_eq_zero]
  intro d hd
  have h : ∀ d : Due, dord d < 36 := by
    have h1 : ∀ d : Duty, dord (.inl d) < 36 := by decide
    have h2 : ∀ k : Ch, dord (.inr k) < 36 := by decide +kernel
    rintro (d | k)
    · exact h1 d
    · exact h2 k
  have := (Finset.mem_filter.mp hd).2
  have := h d
  omega

/-- A tally owed somewhere is owed for a due of that cell. -/
theorem owed_pos {c : Dev nD} {n : ℕ} {g : GSem nD τ sig} {u : Unit} (h : 0 < owed c n g u) : ∃ d, n ≤ dord d ∧ g = dcell c d := by
  by_contra hn
  have hn : ∀ d, n ≤ dord d → g ≠ dcell c d := fun d hd he => hn ⟨d, hd, he⟩
  refine absurd h (Nat.not_lt.mpr (le_of_eq ?_))
  unfold owed
  rw [Finset.sum_apply, Finsupp.finset_sum_apply]
  refine Finset.sum_eq_zero fun d hd => ?_
  have hne := hn d (Finset.mem_filter.mp hd).2
  cases d <;> exact (tallyAt_apply ..).trans (if_neg fun h' => hne h'.1)

/-- The levels of a cell: one for a device's cells. -/
def L (g : GSem nD τ sig) : Finset Unit := if g.1.2 = .tc then {()} else ∅
/-- The level of a cell: landings by phase, above the barrier; sends and staging at the bottom. -/
def lvOf : Option (Option (Bool × Ch)) → ℕ
  | some none => 1
  | some (some (true, k)) => lvl k
  | _ => 0
/-- The level of a cell by its semaphore. -/
def lv (g : GSem nD τ sig) (_ : Unit) : ℕ := lvOf (dec g.2)
/-- The level of what is owed. -/
def dlvl : Due → ℕ
  | .inl _ => 1
  | .inr k => lvl k

/-- Only the devices' own cells have a level. -/
theorem L_of_ne (g : GSem nD τ sig) (h : g.1.2 ≠ .tc) : L g = ∅ := if_neg h
/-- The level of the cell a due is paid to. -/
theorem lv_dcell (c : Dev nD) : ∀ d : Due, lv (dcell c d) () = dlvl d
  | .inl _ => congrArg lvOf (dec_csem none)
  | .inr k => congrArg lvOf (dec_csem (some (true, k)))
/-- The cell a due is paid to has a level. -/
theorem L_dcell (c : Dev nD) (d : Due) : L (dcell c d) = {()} := by cases d <;> exact if_pos rfl

/-- A wait below all that is still owed. -/
theorem mayWait (c : Dev nD) (s : SemLoc sig) (n : ℕ) (h : ∀ d : Due, n ≤ dord d → lvOf (dec s) < dlvl d) :
    (levAts L lv : sProp 𝕄) ⊢ MayWait (c : Thread nD τ) s () (owed c n) :=
  MayOwe.of_cut (L := L) (lev := lv) (lvOf (dec s))
    (fun p hp => by rw [Finset.mem_singleton.mp hp]; show () ∈ L _; rw [show L ((c : Thread nD τ), s) = {()} from if_pos rfl]; exact Finset.mem_singleton_self _)
    (fun g u hg => by obtain ⟨d, _, rfl⟩ := owed_pos hg; rw [L_dcell]; exact Finset.mem_singleton_self _)
    (fun p hp => by rw [Finset.mem_singleton.mp hp]; exact le_rfl)
    (fun g u hg => by obtain ⟨d, hd, rfl⟩ := owed_pos hg; exact lt_of_lt_of_eq (h d hd) (lv_dcell c d).symm)

/-- Every due is above the bottom level. -/
theorem dlvl_pos : ∀ d : Due, 0 < dlvl d := by
  rintro (d | k)
  · exact Nat.one_pos
  · cases k <;> exact Nat.succ_pos _

end Cert.Moe
-- ==== Proof.Steps.lean ====
/-
# 01_k — one effect at a time

The body's signals, transfers and waits, each as one step: what it needs of the protocol's state, what it leaves.
-/
module

public import proofs.«01_k».proof.Proof.Sched

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loop of the body needs a variant. -/
abbrev 𝒱₀ : Variants := Variants.none

/-- A device's run of a program to a postcondition. -/
abbrev run (c : Dev nD) {α : Type} (p : Pr F α) (Q : α → sProp 𝕄) : sProp 𝕄 :=
  wp frame (wpE (defs₀ (F := F)) 𝒱₀ (c : Thread nD τ) none) Set.univ p Q

variable (I : Dev nD → Inp F)

/-! ## The shared records -/

/-- A device and a cell of it. -/
abbrev Key : Type := Dev nD × Option (Bool × Ch)
/-- The cell of a key. -/
abbrev kcell (k : Key) : GSem nD τ sig := cellOf' k.1 k.2

/-- Every cell's invariant, under the names the launch allocated them at, and that each is at its round. -/
def records (K : Key → ℕ) : sProp 𝕄 :=
  iprop((bigSep Finset.univ fun k : Key => cellInv ER (rd I) (K k) (kcell k)) ∗ bigSep Finset.univ fun k : Key => reached ER (kcell k) 0)

/-- The records may be shared freely. -/
instance records_persistent (K : Key → ℕ) : BI.Persistent (records I K) := by unfold records; infer_instance

omit [FloatOps F] in
/-- One of the things there is for every key. -/
theorem bigSep_at (Φ : Key → sProp 𝕄) (k : Key) : bigSep Finset.univ Φ ⊢ Φ k := bigSep_elim (Finset.mem_univ k)

/-- The records hold every cell's invariant, -/
theorem records_inv (K : Key → ℕ) (k : Key) : records I K ⊢ cellInv ER (rd I) (K k) (kcell k) := by
  unfold records
  iintro ⟨H, -⟩
  iapply (bigSep_at (fun k => cellInv ER (rd I) (K k) (kcell k)) k); iexact H
/-- and that every cell is at its first round. -/
theorem records_reached (K : Key → ℕ) (k : Key) : records I K ⊢ reached ER (kcell k) 0 := by
  unfold records
  iintro ⟨-, H⟩
  iapply (bigSep_at (fun k => reached ER (kcell k) 0) k); iexact H

/-- What a device still owes at place `n` of the program. -/
def owesX (c : Dev nD) (n : ℕ) : sProp 𝕄 := iprop(∃ W, owes (c : Thread nD τ) (owed c n) W)

/-- A transfer's share of the protocol's state on its device: before its start, -/
def chan0 (c : Dev nD) (k : Ch) : sProp 𝕄 :=
  iprop(dutyTok ER (sndCell c k) 0 d0 ∗ dutyTok ER (rcvCell (tgt c k) k) 0 d0 ∗ atPos ER (sndCell c k) 0 ∅ 0 ∗ atPos ER (rcvCell c k) 0 ∅ 0
    ∗ cred (tallyAt (rcvCell c k) () N))
/-- between its start and its waits, -/
def chan1 (c : Dev nD) (k : Ch) : sProp 𝕄 :=
  iprop(cred (tallyAt (sndCell c k) () N) ∗ atPos ER (sndCell c k) 0 ∅ 0 ∗ atPos ER (rcvCell c k) 0 ∅ 0 ∗ cred (tallyAt (rcvCell c k) () N))
/-- after: both semaphores at zero. -/
def chan2 (c : Dev nD) (k : Ch) : sProp 𝕄 := iprop(semVal (sndCell c k) 0 ∗ semVal (rcvCell c k) 0)

variable (K : Key → ℕ)

/-! ## Signals -/

/-- One signal, with what it hands over. -/
theorem run_signal (c : Dev nD) (d : Duty) (n : ℕ) (hn : dord (.inl d) = n) {Q : PUnit → sProp 𝕄} :
    iprop(records I K ∗ owesX c n ∗ dutyTok ER (barCell (btgt c d)) 0 d ∗ barPay (btgt c d) d)
      ⊢ iprop((owesX c (n + 1) -∗ Q ⟨⟩) -∗ run c (signalP c d) Q) := by
  subst hn
  unfold signalP
  rw [devS_eq]
  unfold semSignalWord owesX
  iintro ⟨#HR, ⟨%W, Ho⟩, Ht, Hp⟩ Hk
  iapply (Rounds.wp_signal 𝒱₀ ER (rd I) (c : Thread nD τ) none (dst := (btgt c d : Thread nD τ)) (κ := K (btgt c d, none)) (d := d)
    (Finset.ext_iff.mp (duties_eq I (btgt c d) none) d |>.mpr (Finset.mem_univ d)) ((amount_eq I (btgt c d) none 0 d).trans (by decide)) () (owed c (dord (.inl d) + 1))
    (owed_step c (.inl d))) $$ [Ho Ht Hp]
  · isplitr; · iapply (records_inv I K (btgt c d, none)); iexact HR
    isplitl [Ho]; · iexact Ho
    isplitl [Ht]; · iexact Ht
    isplitl [Hp]
    · iapply (Entails.of_eq (show barPay (btgt c d) d = (rd I).payload ((btgt c d : Thread nD τ), .reg barS) 0 d from (payload_eq I (btgt c d) none 0 d).symm)); iexact Hp
    iapply (records_reached I K (btgt c d, none)); iexact HR
  iintro Ho
  rw [wp_ret]; imodintro
  iapply Hk
  iexists W; iexact Ho

/-- The wait for the six neighbours. -/
theorem run_barrier (c : Dev nD) {Q : PUnit → sProp 𝕄} :
    iprop(records I K ∗ levAts L lv ∗ owesX c 6 ∗ atPos ER (barCell c) 0 ∅ 0 ∗ cred (tallyAt (barCell c) () 6))
      ⊢ iprop(((owesX c 6 ∗ semVal (barCell c) 0 ∗ three (fun j => barPay c (false, j)) ∗ three (fun t => barPay c (true, t))) -∗ Q ⟨⟩)
        -∗ run c (semWaitWord barS 6#32) Q) := by
  unfold semWaitWord owesX
  iintro ⟨#HR, #HL, ⟨%W, Ho⟩, Hat, Hc⟩ Hk
  iapply (Rounds.wp_wait_rest_token 𝒱₀ ER (rd I) (c : Thread nD τ) none (κ := K (c, none)) (sm := csem none)
      (wpE_semWait_eq 𝒱₀ (c : Thread nD τ) none Set.univ) (Set.mem_univ _) () (O := owed c 6) (W := W) (R := 0) (m := 0) (T := ∅)
      (by rw [expect_bar]; decide)) $$ [Ho Hat Hc]
  · isplitr; · iapply (records_inv I K (c, none)); iexact HR
    isplitl [Hc]; · iexact Hc
    isplitl [Ho]; · iexact Ho
    isplitr
    · iapply (mayWait c (csem none) 6 (by
        rw [dec_csem]
        rintro (d | k) hd
        · exact absurd hd (by revert d; decide)
        · revert k; decide)); iexact HL
    iexact Hat
  iintro ⟨Ho, Hat, -, Hp⟩
  imod (Rounds.cell_close ER (rd I) (Set.mem_univ (K (c, none))) (fun h => h) (R := 0 + 1) (duties_later I (barCell c))) $$ [Hat] with Hz
  · isplitr; · iapply (records_inv I K (c, none)); iexact HR
    iexact Hat
  rw [wp_ret]; imodintro
  iapply Hk
  isplitl [Ho]; · iexists _; iexact Ho
  isplitl [Hz]; · iexact Hz
  iapply (Entails.of_eq (rest_bar I c)); iexact Hp

/-! ## Waits -/

/-- One semaphore's wait of a transfer, sent or landed, and its cell closed. -/
theorem run_wait (c : Dev nD) (r : Bool) (k : Ch) (n : ℕ) (hn : ∀ d : Due, n ≤ dord d → lvl k < dlvl d) {w : TpuEff nD τ sig (Elt F) Λ₀ .tc PUnit}
    (hw : ∀ Q : PUnit → sProp 𝕄, wpE (defs₀ (F := F)) 𝒱₀ (c : Thread nD τ) none Set.univ w Q = waitSpec (c : Thread nD τ) Set.univ (csem (some (r, k))) N Q)
    {P : sProp 𝕄} (hP : payOf I c d0 (some (some (r, k))) = P) {Q : PUnit → sProp 𝕄} :
    iprop(records I K ∗ levAts L lv ∗ owesX c n ∗ atPos ER (cellOf' c (some (r, k))) 0 ∅ 0 ∗ cred (tallyAt (cellOf' c (some (r, k))) () N))
      ⊢ iprop(((owesX c n ∗ semVal (cellOf' c (some (r, k))) 0 ∗ P) -∗ Q ⟨⟩) -∗ run c (Prog.lift w) Q) := by
  unfold Prog.lift owesX
  iintro ⟨#HR, #HL, ⟨%W, Ho⟩, Hat, Hc⟩ Hk
  iapply (Rounds.wp_wait_rest_token 𝒱₀ ER (rd I) (c : Thread nD τ) none (κ := K (c, some (r, k))) (sm := csem (some (r, k)))
      hw (Set.mem_univ _) () (O := owed c n) (W := W) (R := 0) (m := 0) (T := ∅)
      (by rw [expect_xfer, Nat.zero_add])) $$ [Ho Hat Hc]
  · isplitr; · iapply (records_inv I K (c, some (r, k))); iexact HR
    isplitl [Hc]; · iexact Hc
    isplitl [Ho]; · iexact Ho
    isplitr
    · iapply (mayWait c (csem (some (r, k))) n (fun d hd => by
        rw [dec_csem]
        cases r
        · exact dlvl_pos d
        · exact hn d hd)); iexact HL
    iexact Hat
  iintro ⟨Ho, Hat, -, Hp⟩
  imod (Rounds.cell_close ER (rd I) (Set.mem_univ (K (c, some (r, k)))) (fun h => h) (R := 0 + 1) (duties_later I (cellOf' c (some (r, k))))) $$ [Hat] with Hz
  · isplitr; · iapply (records_inv I K (c, some (r, k))); iexact HR
    iexact Hat
  rw [wp_ret]; imodintro
  iapply Hk
  isplitl [Ho]; · iexists _; iexact Ho
  isplitl [Hz]; · iexact Hz
  iapply (Entails.of_eq ((rest_xfer I c (r, k)).trans hP)); iexact Hp

/-- A transfer's two waits. -/
theorem run_wait1 (c : Dev nD) (k : Ch) (n : ℕ) (hn : ∀ d : Due, n ≤ dord d → lvl k < dlvl d) {Q : PUnit → sProp 𝕄} :
    iprop(records I K ∗ levAts L lv ∗ owesX c n ∗ chan1 c k)
      ⊢ iprop(((owesX c n ∗ chan2 c k ∗ sendPay I c k ∗ recvPay I c k) -∗ Q ⟨⟩) -∗ run c (wait1 c k) Q) := by
  unfold wait1 waitSP waitRP chan1 chan2
  iintro ⟨#HR, #HL, Ho, Hcs, Has, Har, Hcr⟩ Hk
  rw [run, wp_bind]
  iapply (run_wait I K c false k n hn (P := sendPay I c k) (fun Q => (wpE_waitDma2_eq 𝒱₀ (c : Thread nD τ) none Set.univ Q).trans (by rw [src_credit]; rfl)) rfl) $$ [Ho Has Hcs]
  · isplitr; · iexact HR
    isplitr; · iexact HL
    isplitl [Ho]; · iexact Ho
    isplitl [Has]; · iexact Has
    iexact Hcs
  iintro ⟨Ho, Hz, Hp⟩
  iapply (run_wait I K c true k n hn (P := recvPay I c k) (fun Q => (wpE_waitDma2_eq 𝒱₀ (c : Thread nD τ) none Set.univ Q).trans (by rw [dst_credit]; rfl)) rfl) $$ [Ho Har Hcr]
  · isplitr; · iexact HR
    isplitr; · iexact HL
    isplitl [Ho]; · iexact Ho
    isplitl [Har]; · iexact Har
    iexact Hcr
  iintro ⟨Ho, Hz', Hp'⟩
  iapply Hk
  isplitl [Ho]; · iexact Ho
  isplitl [Hz Hz']
  · isplitl [Hz]; · iexact Hz
    iexact Hz'
  isplitl [Hp]; · iexact Hp
  iexact Hp'

/-- Three transfers' waits. -/
theorem run_waits (c : Dev nD) (k : Fin 3 → Ch) (n : ℕ) (hn : ∀ j, ∀ d : Due, n ≤ dord d → lvl (k j) < dlvl d) {Q : PUnit → sProp 𝕄} :
    iprop(records I K ∗ levAts L lv ∗ owesX c n ∗ three (fun j => chan1 c (k j)))
      ⊢ iprop(((owesX c n ∗ three (fun j => chan2 c (k j)) ∗ three (fun j => sendPay I c (k j)) ∗ three (fun j => recvPay I c (k j))) -∗ Q ⟨⟩)
        -∗ run c (waits c k) Q) := by
  unfold waits three
  iintro ⟨#HR, #HL, Ho, H0, H1, H2⟩ Hk
  rw [run, wp_bind]
  iapply (run_wait1 I K c (k 0) n (hn 0)) $$ [Ho H0]
  · isplitr; · iexact HR
    isplitr; · iexact HL
    isplitl [Ho]; · iexact Ho
    iexact H0
  iintro ⟨Ho, Hz0, Hs0, Hr0⟩
  rw [wp_bind]
  iapply (run_wait1 I K c (k 1) n (hn 1)) $$ [Ho H1]
  · isplitr; · iexact HR
    isplitr; · iexact HL
    isplitl [Ho]; · iexact Ho
    iexact H1
  iintro ⟨Ho, Hz1, Hs1, Hr1⟩
  iapply (run_wait1 I K c (k 2) n (hn 2)) $$ [Ho H2]
  · isplitr; · iexact HR
    isplitr; · iexact HL
    isplitl [Ho]; · iexact Ho
    iexact H2
  iintro ⟨Ho, Hz2, Hs2, Hr2⟩
  iapply Hk
  isplitl [Ho]; · iexact Ho
  isplitl [Hz0 Hz1 Hz2]
  · isplitl [Hz0]; · iexact Hz0
    isplitl [Hz1] <;> iassumption
  isplitl [Hs0 Hs1 Hs2]
  · isplitl [Hs0]; · iexact Hs0
    isplitl [Hs1] <;> iassumption
  isplitl [Hr0]; · iexact Hr0
  isplitl [Hr1] <;> iassumption

end Cert.Moe
-- ==== Proof.Send.lean ====
/-
# 01_k — the transfers

A transfer's start as one step: the chunk it reads and the place it writes against what its landing hands over.
-/
module

public import proofs.«01_k».proof.Proof.Steps

@[expose] public section

noncomputable section

namespace Cert.Moe

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The chunks as the transfers address them -/

section Chunks

variable (c : Dev nD) {off : Fin 3 → Nat} (h : ∀ a, off a + S1x64x1024.size a ≤ S16x64x1024.size a)

/-- A chunk as the transfers address it covers that chunk. -/
theorem redAt_set {r : Fin 16} (ho : off = ![r.val, 0, 0]) : (redAt off h).view.set = partS 16 64 1024 r :=
  (View.set_reshape _ _).trans ((View.set_slice_whole cc0_scratch0 _).trans (set_part h ho))
/-- A slot as the transfers address it covers that slot of the first landing buffer. -/
theorem aRow_set (i : Fin 12) : (aRow i).view.set = partS 12 64 1024 i :=
  (View.set_reshape _ _).trans ((View.set_slice_whole cc0_scratch1 _).trans (set_part (inbA i) rfl))
/-- A slot as the transfers address it covers that slot of the second landing buffer. -/
theorem bRow_set (i : Fin 3) : (bRow i).view.set = partS 3 64 1024 i :=
  (View.set_reshape _ _).trans ((View.set_slice_whole cc0_scratch2 _).trans (set_part (inbB i) rfl))

omit [FloatOps F] in
/-- Owning a chunk as the transfers address it is owning the chunk. -/
theorem redAt_pts {r : Fin 16} (ho : off = ![r.val, 0, 0]) (q : PosShare TreeShare) (f : Vec F S16x64x1024 .bf16) :
    ((redAt off h).view.loc (c : Thread nD τ) ↦[(redAt off h).view.set]{q} f : sProp 𝕄) = redP c r q f := by
  rw [redAt_set h ho]; rfl
omit [FloatOps F] in
/-- Owning a slot as the transfers address it is owning the slot of the first landing buffer. -/
theorem aRow_pts (i : Fin 12) (f : Vec F S12x64x1024 .bf16) :
    ((aRow i).view.loc (c : Thread nD τ) ↦[(aRow i).view.set]{fullShare} f : sProp 𝕄) = aP c i f := by
  rw [aRow_set i]; rfl
omit [FloatOps F] in
/-- Owning a slot as the transfers address it is owning the slot of the second landing buffer. -/
theorem bRow_pts (i : Fin 3) (f : Vec F S3x64x1024 .bf16) :
    ((bRow i).view.loc (c : Thread nD τ) ↦[(bRow i).view.set]{fullShare} f : sProp 𝕄) = bP c i f := by
  rw [bRow_set i]; rfl

/-- A chunk of the reduction buffer landing in a slot of the first landing buffer, -/
theorem land_a (i : Fin 12) {r : Fin 16} (ho : off = ![r.val, 0, 0]) (fs : Vec F S16x64x1024 .bf16) (fd G : Vec F S12x64x1024 .bf16)
    (hG : part G i = part fs r) :
    ((aRow i).view.loc (c : Thread nD τ) ↦[(aRow i).view.set]{fullShare}
        ((aRow i).view.write (Elt F) fd ((redAt off h).view.read (Elt F) fs) Finset.univ) : sProp 𝕄) = aP c i G := by
  rw [← aRow_pts]
  refine pointsTo_congr fun x hx => ?_
  obtain ⟨y, _, rfl⟩ := Finset.mem_map.mp hx
  rw [View.write_emb_of_mem _ _ (Finset.mem_univ y)]
  show fs ((Rect.unit (s := S16x64x1024) off S1x64x1024.size h).emb _) = G ((Rect.unit (s := S12x64x1024) ![i.val, 0, 0] S1x64x1024.size (inbA i)).emb _)
  rw [emb_part h ho, emb_part (inbA i) rfl]
  exact (congrFun hG _).symm
/-- in one of the second, -/
theorem land_b (i : Fin 3) {r : Fin 16} (ho : off = ![r.val, 0, 0]) (fs : Vec F S16x64x1024 .bf16) (fd G : Vec F S3x64x1024 .bf16)
    (hG : part G i = part fs r) :
    ((bRow i).view.loc (c : Thread nD τ) ↦[(bRow i).view.set]{fullShare}
        ((bRow i).view.write (Elt F) fd ((redAt off h).view.read (Elt F) fs) Finset.univ) : sProp 𝕄) = bP c i G := by
  rw [← bRow_pts]
  refine pointsTo_congr fun x hx => ?_
  obtain ⟨y, _, rfl⟩ := Finset.mem_map.mp hx
  rw [View.write_emb_of_mem _ _ (Finset.mem_univ y)]
  show fs ((Rect.unit (s := S16x64x1024) off S1x64x1024.size h).emb _) = G ((Rect.unit (s := S3x64x1024) ![i.val, 0, 0] S1x64x1024.size (inbB i)).emb _)
  rw [emb_part h ho, emb_part (inbB i) rfl]
  exact (congrFun hG _).symm
/-- in the same chunk of another device. -/
theorem land_red {r : Fin 16} (ho : off = ![r.val, 0, 0]) (fs fd : Vec F S16x64x1024 .bf16) :
    ((redAt off h).view.loc (c : Thread nD τ) ↦[(redAt off h).view.set]{fullShare}
        ((redAt off h).view.write (Elt F) fd ((redAt off h).view.read (Elt F) fs) Finset.univ) : sProp 𝕄) = redP c r fullShare fs := by
  rw [← redAt_pts c h ho]
  refine pointsTo_congr fun x hx => ?_
  obtain ⟨y, _, rfl⟩ := Finset.mem_map.mp hx
  rw [View.write_emb_of_mem _ _ (Finset.mem_univ y)]
  rfl

end Chunks

variable (I : Dev nD → Inp F) (K : Key → ℕ)

/-! ## A transfer's start -/

/-- A start, over any two places, from the payloads it makes. -/
theorem run_start (c : Dev nD) (k : Ch) (sl : Bool) {src dst : Memref sig .tc .vmem S64x1024 .bf16} {n : Dev nD} (hn : n = tgt c k)
    {hsc : (dst : Memref sig (Dev.tc n : Thread nD τ).2.kind .vmem S64x1024 .bf16).view.ref.isScScratch = false} {hsrc : src.view.WordExact} {hdst : dst.view.WordExact}
    {hsem : DmaTarget.Typed .vmem (.dma (rcvS k)) (.remote (Dev.tc n : Thread nD τ) dst (.dma (sndS k)) hsc)}
    (hN : dst.view.dmaCredit = N) {q : PosShare TreeShare} {fs : Buf (Elt F) (src.view.loc (c : Thread nD τ))}
    {fd : Buf (Elt F) (dst.view.loc (tgt c k : Thread nD τ))}
    (hp₁ : (bif sl then iprop(emp) else src.view.loc (c : Thread nD τ) ↦[src.view.set]{q} fs) ⊢ sendPay I c k)
    (hp₂ : (bif sl then iprop((dst.view.loc (tgt c k : Thread nD τ) ↦[dst.view.set]{fullShare} (dst.view.write (Elt F) fd (src.view.read (Elt F) fs) Finset.univ))
          ∗ (src.view.loc (c : Thread nD τ) ↦[src.view.set]{q} fs))
        else dst.view.loc (tgt c k : Thread nD τ) ↦[dst.view.set]{fullShare} (dst.view.write (Elt F) fd (src.view.read (Elt F) fs) Finset.univ)) ⊢ recvPay I (tgt c k) k)
    {Q : PUnit → sProp 𝕄} :
    iprop(records I K ∗ (src.view.loc (c : Thread nD τ) ↦[src.view.set]{q} fs) ∗ (dst.view.loc (tgt c k : Thread nD τ) ↦[dst.view.set]{fullShare} fd)
        ∗ owesX c (6 + ord k) ∗ chan0 c k)
      ⊢ iprop(((owesX c (6 + ord k + 1) ∗ chan1 c k) -∗ Q ⟨⟩)
        -∗ run c (.op (.enqueueDma src (.remote (Dev.tc n) dst (.dma (sndS k)) hsc) (.dma (rcvS k)) hsrc hdst hsem) .ret) Q) := by
  subst hn
  unfold owesX chan0 chan1
  iintro ⟨#HR, Hs, Hd, ⟨%W, Ho⟩, Ht, Ht', Has, Har, Hcr⟩ Hk
  iapply (Rounds.wp_send_bif 𝒱₀ ER (rd I) (c : Thread nD τ) none (κ₁ := K (c, some (false, k))) (κ₂ := K (tgt c k, some (true, k)))
      (c' := (tgt c k : Thread nD τ)) (sS := .dma (sndS k)) (sem := .dma (rcvS k)) (r₁ := 0) (r₂ := 0) (d₁ := d0) (d₂ := d0) sl
      ((Finset.ext_iff.mp (duties_eq I c (some (false, k))) d0).mpr (Finset.mem_singleton_self _))
      ((Finset.ext_iff.mp (duties_eq I (tgt c k) (some (true, k))) d0).mpr (Finset.mem_singleton_self _))
      () () N hN (amount_eq I c (some (false, k)) 0 d0) (amount_eq I (tgt c k) (some (true, k)) 0 d0)
      (owed c (6 + ord k + 1)) (owed_step c (.inr k))
      (hp₁.trans (Entails.of_eq (payload_eq I c (some (false, k)) 0 d0).symm))
      (hp₂.trans (Entails.of_eq (payload_eq I (tgt c k) (some (true, k)) 0 d0).symm))) $$ [Hs Hd Ho Ht Ht']
  · isplitr; · iapply (records_inv I K (c, some (false, k))); iexact HR
    isplitr; · iapply (records_inv I K (tgt c k, some (true, k))); iexact HR
    isplitl [Hs]; · iexact Hs
    isplitl [Hd]; · iapply (pointsTo_writeUpdate (tgt c k : Thread nD τ) (v := dst.view) subset_rfl); iexact Hd
    isplitl [Ho]; · iexact Ho
    isplitl [Ht]; · iexact Ht
    isplitr; · iapply (records_reached I K (c, some (false, k))); iexact HR
    isplitl [Ht']; · iexact Ht'
    iapply (records_reached I K (tgt c k, some (true, k))); iexact HR
  iintro ⟨Hc, Ho⟩
  rw [wp_ret]; imodintro
  iapply Hk
  isplitl [Ho]; · iexists W; iexact Ho
  isplitl [Hc]; · iexact Hc
  isplitl [Has]; · iexact Has
  isplitl [Har] <;> iassumption

/-- What a start needs: the chunk it reads, and the place it writes. -/
def sendRes (c : Dev nD) : Ch → sProp 𝕄
  | .A b j => iprop(redP c (ch b (pos (grpD c j))) fullShare (partF I c) ∗ aE (grpD c j) (slotA b j))
  | .B t => iprop(redP c (crsD c t) fullShare (sumAF I c) ∗ bE (crsD c t) t)
  | .C t => iprop(redP c c (shC t) (finF I) ∗ redE (crsD c t) c)
  | .D t j => iprop(redP c (ct c t) (shD j) (finF I) ∗ redE (grpD c j) (ct c t))

/-- A transfer's start, from the chunk it reads and the place it writes. -/
theorem run_send (c : Dev nD) (k : Ch) {Q : PUnit → sProp 𝕄} :
    iprop(records I K ∗ sendRes I c k ∗ owesX c (6 + ord k) ∗ chan0 c k)
      ⊢ iprop(((owesX c (6 + ord k + 1) ∗ chan1 c k) -∗ Q ⟨⟩) -∗ run c (sendP c k) Q) := by
  have hn := devT_eq c k
  unfold sendP
  cases k with
  | A b j =>
    unfold sendRes aE
    iintro ⟨#HR, ⟨Hs, ⟨%fd, Hd⟩⟩, Ho, Hc⟩
    iapply (run_start I K c (.A b j) true (src := srcP c (.A b j)) (dst := dstP c (.A b j)) hn rfl (q := fullShare) (fs := partF I c) (fd := fd)
      (BI.Entails.refl _) (by
        refine (BIBase.Entails.trans (Laws.sep_mono
          (Entails.of_eq (land_a (grpD c j) (k0_off1_inb c b j) (slotA b j) (off1_eq c b j) (partF I c) fd (aF I (grpD c j)) (by rw [part_aF, grpD_rev, ])))
          ((Entails.of_eq (redAt_pts c (k0_off1_inb c b j) (off1_eq c b j) fullShare (partF I c))))) ?_)
        show _ ⊢ iprop(aP (grpD c j) (slotA b j) (aF I (grpD c j)) ∗ redE (grpD (grpD c j) j.rev) (ch b (pos (grpD c j))))
        rw [grpD_rev]
        unfold redE
        iintro ⟨H1, H2⟩
        isplitl [H1]; · iexact H1
        iexists _; iexact H2)) $$ [Hs Hd Ho Hc]
    isplitr; · iexact HR
    isplitl [Hs]; · iapply (Entails.of_eq (redAt_pts c (k0_off1_inb c b j) (off1_eq c b j) fullShare (partF I c)).symm); iexact Hs
    isplitl [Hd]; · iapply (Entails.of_eq (aRow_pts (grpD c j) (slotA b j) fd).symm); iexact Hd
    isplitl [Ho] <;> iassumption
  | B t =>
    unfold sendRes bE
    iintro ⟨#HR, ⟨Hs, ⟨%fd, Hd⟩⟩, Ho, Hc⟩
    iapply (run_start I K c (.B t) true (src := srcP c (.B t)) (dst := dstP c (.B t)) hn rfl (q := fullShare) (fs := sumAF I c) (fd := fd)
      (BI.Entails.refl _) (by
        refine (BIBase.Entails.trans (Laws.sep_mono
          (Entails.of_eq (land_b (crsD c t) (k0_off3_inb c t.succ) t (off3_eq c t.succ) (sumAF I c) fd (bF I (crsD c t)) (by rw [part_bF, crsD_rev]; rfl)))
          ((Entails.of_eq (redAt_pts c (k0_off3_inb c t.succ) (off3_eq c t.succ) fullShare (sumAF I c))))) ?_)
        show _ ⊢ iprop(bP (crsD c t) t (bF I (crsD c t)) ∗ redE (crsD (crsD c t) t.rev) (crsD c t))
        rw [crsD_rev]
        unfold redE
        iintro ⟨H1, H2⟩
        isplitl [H1]; · iexact H1
        iexists _; iexact H2)) $$ [Hs Hd Ho Hc]
    isplitr; · iexact HR
    isplitl [Hs]; · iapply (Entails.of_eq (redAt_pts c (k0_off3_inb c t.succ) (off3_eq c t.succ) fullShare (sumAF I c)).symm); iexact Hs
    isplitl [Hd]; · iapply (Entails.of_eq (bRow_pts (crsD c t) t fd).symm); iexact Hd
    isplitl [Ho] <;> iassumption
  | C t =>
    unfold sendRes redE
    iintro ⟨#HR, ⟨Hs, ⟨%fd, Hd⟩⟩, Ho, Hc⟩
    iapply (run_start I K c (.C t) false (src := srcP c (.C t)) (dst := dstP c (.C t)) hn rfl (q := shC t) (fs := finF I) (fd := fd)
      (Entails.of_eq (redAt_pts c (k0_off5_inb c) (off5_eq c) (shC t) (finF I)))
      ((Entails.of_eq (land_red (crsD c t) (k0_off5_inb c) (off5_eq c) (finF I) fd)).trans (Entails.of_eq (by
        show _ = redP (crsD c t) (crsD (crsD c t) t.rev) fullShare (finF I)
        rw [crsD_rev])))) $$ [Hs Hd Ho Hc]
    isplitr; · iexact HR
    isplitl [Hs]; · iapply (Entails.of_eq (redAt_pts c (k0_off5_inb c) (off5_eq c) (shC t) (finF I)).symm); iexact Hs
    isplitl [Hd]; · iapply (Entails.of_eq (redAt_pts (crsD c t) (k0_off5_inb c) (off5_eq c) fullShare fd).symm); iexact Hd
    isplitl [Ho] <;> iassumption
  | D t j =>
    unfold sendRes redE
    iintro ⟨#HR, ⟨Hs, ⟨%fd, Hd⟩⟩, Ho, Hc⟩
    iapply (run_start I K c (.D t j) false (src := srcP c (.D t j)) (dst := dstP c (.D t j)) hn rfl (q := shD j) (fs := finF I) (fd := fd)
      (Entails.of_eq (redAt_pts c (k0_off3_inb c t) (off3_eq c t) (shD j) (finF I)))
      ((Entails.of_eq (land_red (grpD c j) (k0_off3_inb c t) (off3_eq c t) (finF I) fd)).trans (Entails.of_eq (by
        show _ = redP (grpD c j) (ct (grpD (grpD c j) j.rev) t) fullShare (finF I)
        rw [grpD_rev])))) $$ [Hs Hd Ho Hc]
    isplitr; · iexact HR
    isplitl [Hs]; · iapply (Entails.of_eq (redAt_pts c (k0_off3_inb c t) (off3_eq c t) (shD j) (finF I)).symm); iexact Hs
    isplitl [Hd]; · iapply (Entails.of_eq (redAt_pts (grpD c j) (k0_off3_inb c t) (off3_eq c t) fullShare fd).symm); iexact Hd
    isplitl [Ho] <;> iassumption

/-- Three starts. -/
theorem run_sends (c : Dev nD) (k : Fin 3 → Ch) (n : ℕ) (hk : ∀ j, 6 + ord (k j) = n + j.val) {Q : PUnit → sProp 𝕄} :
    iprop(records I K ∗ three (fun j => sendRes I c (k j)) ∗ owesX c n ∗ three (fun j => chan0 c (k j)))
      ⊢ iprop(((owesX c (n + 3) ∗ three (fun j => chan1 c (k j))) -∗ Q ⟨⟩) -∗ run c (sends c k) Q) := by
  unfold sends three
  have h0 : 6 + ord (k 0) = n := hk 0
  have h1 : 6 + ord (k 1) = n + 1 := hk 1
  have h2 : 6 + ord (k 2) = n + 2 := hk 2
  iintro ⟨#HR, ⟨Hs0, Hs1, Hs2⟩, Ho, H0, H1, H2⟩ Hk
  rw [run, wp_bind]
  iapply (run_send I K c (k 0)) $$ [Ho H0 Hs0]
  · isplitr; · iexact HR
    isplitl [Hs0]; · iexact Hs0
    isplitl [Ho]; · rw [h0]; iexact Ho
    iexact H0
  iintro ⟨Ho, H0⟩
  rw [wp_bind]
  iapply (run_send I K c (k 1)) $$ [Ho H1 Hs1]
  · isplitr; · iexact HR
    isplitl [Hs1]; · iexact Hs1
    isplitl [Ho]; · rw [h0, h1]; iexact Ho
    iexact H1
  iintro ⟨Ho, H1⟩
  iapply (run_send I K c (k 2)) $$ [Ho H2 Hs2]
  · isplitr; · iexact HR
    isplitl [Hs2]; · iexact Hs2
    isplitl [Ho]; · rw [h1, h2]; iexact Ho
    iexact H2
  iintro ⟨Ho, H2⟩
  iapply Hk
  isplitl [Ho]; · rw [h2]; iexact Ho
  isplitl [H0]; · iexact H0
  isplitl [H1] <;> iassumption

end Cert.Moe
-- ==== Proof.Stages.lean ====
/-
# 01_k — the local stages

Each stage between two transfers, as one step: what it reads comes back as it was, what it writes comes back at the
contents `Values` names.
-/
module

public import proofs.«01_k».proof.Proof.Send

@[expose] public section

noncomputable section

namespace Cert.Moe

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Reading and writing through a rectangle -/

/-- The offset zero in two axes. -/
theorem hz2 : (![0, 0] : Fin 2 → Nat) = fun _ => 0 := by decide
/-- The offset zero in three axes. -/
theorem hz3 : (![0, 0, 0] : Fin 3 → Nat) = fun _ => 0 := by decide

section Reads
variable {off2 : Fin 2 → Nat} {off3 : Fin 3 → Nat}

/-- Loading a block of tokens. -/
theorem read_x (h) {b : Fin 4} (ho : off2 = ![256 * b.val, 0]) (f : Vec F S1024x512 .f32) :
    xM.view.readAt (Elt F) (Rect.unit (s := S1024x512) off2 S256x512.size h).toLoadRect f = rows f b :=
  funext fun j => congrArg f (emb_rows h ho j)
/-- Loading a block of expert choices. -/
theorem read_ix (h) {b : Fin 4} (ho : off2 = ![256 * b.val, 0]) (f : Vec F S1024x1 .i32) :
    ixM.view.readAt (Elt F) (Rect.unit (s := S1024x1) off2 S256x1.size h).toLoadRect f = rows f b :=
  funext fun j => congrArg f (emb_rows h ho j)
/-- Loading a block of rounded tokens. -/
theorem read_xb (h) {b : Fin 4} (ho : off2 = ![256 * b.val, 0]) (f : Vec F S1024x512 .bf16) :
    xbM.view.readAt (Elt F) (Rect.unit (s := S1024x512) off2 S256x512.size h).toLoadRect f = rows f b :=
  funext fun j => congrArg f (emb_rows h ho j)
/-- Loading a block of the shared product. -/
theorem read_sh (h) {b : Fin 4} (ho : off2 = ![256 * b.val, 0]) (f : Vec F S1024x1024 .f32) :
    shM.view.readAt (Elt F) (Rect.unit (s := S1024x1024) off2 S256x1024.size h).toLoadRect f = rows f b :=
  funext fun j => congrArg f (emb_rows h ho j)
/-- Loading one expert's rounded weights. -/
theorem read_eb (h) {r : Fin 4} (ho : off3 = ![r.val, 0, 0]) (f : Vec F S4x512x1024 .bf16) :
    ebM.view.readAt (Elt F) (Rect.unit (s := S4x512x1024) off3 S1x512x1024.size h).toLoadRect f = part f r :=
  funext fun j => congrArg f (emb_part h ho j)
/-- Loading a chunk of the reduction buffer. -/
theorem read_red (h) {r : Fin 16} (ho : off3 = ![r.val, 0, 0]) (f : Vec F S16x64x1024 .bf16) :
    redM.view.readAt (Elt F) (Rect.unit (s := S16x64x1024) off3 S1x64x1024.size h).toLoadRect f = part f r :=
  funext fun j => congrArg f (emb_part h ho j)
/-- Loading a group's four chunks. -/
theorem read_redQ (h) {b : Fin 4} (ho : off3 = ![4 * b.val, 0, 0]) (f : Vec F S16x64x1024 .bf16) :
    redM.view.readAt (Elt F) (Rect.unit (s := S16x64x1024) off3 S4x64x1024.size h).toLoadRect f = quad f b :=
  funext fun j => congrArg f (emb_quad h ho j)
/-- Loading a slot of the first landing buffer. -/
theorem read_a (h) {r : Fin 12} (ho : off3 = ![r.val, 0, 0]) (f : Vec F S12x64x1024 .bf16) :
    aM.view.readAt (Elt F) (Rect.unit (s := S12x64x1024) off3 S1x64x1024.size h).toLoadRect f = part f r :=
  funext fun j => congrArg f (emb_part h ho j)
/-- Loading a slot of the second landing buffer. -/
theorem read_b (h) {r : Fin 3} (ho : off3 = ![r.val, 0, 0]) (f : Vec F S3x64x1024 .bf16) :
    bM.view.readAt (Elt F) (Rect.unit (s := S3x64x1024) off3 S1x64x1024.size h).toLoadRect f = part f r :=
  funext fun j => congrArg f (emb_part h ho j)

/-- Whole buffers read and written. -/
abbrev r512 : Rect S1024x512 := Rect.unit (s := S1024x512) ![0, 0] S1024x512.size inb_S1024x512_S1024x512_0_0
/-- The whole of the expert weights. -/
abbrev rEw : Rect S4x512x1024 := Rect.unit (s := S4x512x1024) ![0, 0, 0] S4x512x1024.size inb_S4x512x1024_S4x512x1024_0_0_0
/-- The whole of the shared weights. -/
abbrev rSw : Rect S512x1024 := Rect.unit (s := S512x1024) ![0, 0] S512x1024.size inb_S512x1024_S512x1024_0_0
/-- The whole of the router. -/
abbrev rRw : Rect S512x64 := Rect.unit (s := S512x64) ![0, 0] S512x64.size inb_S512x64_S512x64_0_0

/-- Loading all tokens. -/
theorem full_x (f : Vec F S1024x512 .f32) : xM.view.readAt (Elt F) r512.toLoadRect f = f := Memref.readAt_unit_zero (Elt F) cc0_stg0_0 hz2 _ f
/-- Loading the router. -/
theorem full_rw (f : Vec F S512x64 .f32) : rwM.view.readAt (Elt F) rRw.toLoadRect f = f := Memref.readAt_unit_zero (Elt F) cc0_stg1_0 hz2 _ f
/-- Loading all expert weights. -/
theorem full_ew (f : Vec F S4x512x1024 .f32) : ewM.view.readAt (Elt F) rEw.toLoadRect f = f := Memref.readAt_unit_zero (Elt F) cc0_stg3_0 hz3 _ f
/-- Loading the shared weights. -/
theorem full_sw (f : Vec F S512x1024 .f32) : swM.view.readAt (Elt F) rSw.toLoadRect f = f := Memref.readAt_unit_zero (Elt F) cc0_stg4_0 hz2 _ f
/-- Loading the rounded shared weights. -/
theorem full_sb (f : Vec F S512x1024 .bf16) : sbM.view.readAt (Elt F) rSw.toLoadRect f = f := Memref.readAt_unit_zero (Elt F) cc0_scratch6 hz2 _ f
/-- Storing the rounded tokens. -/
theorem store_xb (f w : Vec F S1024x512 .bf16) : (xbM.access r512 : View sig .tc _ _ _).write (Elt F) f w Finset.univ = w :=
  Memref.write_access_unit_zero_univ (Elt F) cc0_scratch4 hz2 _ f w
/-- Storing the rounded expert weights. -/
theorem store_eb (f w : Vec F S4x512x1024 .bf16) : (ebM.access rEw : View sig .tc _ _ _).write (Elt F) f w Finset.univ = w :=
  Memref.write_access_unit_zero_univ (Elt F) cc0_scratch5 hz3 _ f w
/-- Storing the rounded shared weights. -/
theorem store_sb (f w : Vec F S512x1024 .bf16) : (sbM.access rSw : View sig .tc _ _ _).write (Elt F) f w Finset.univ = w :=
  Memref.write_access_unit_zero_univ (Elt F) cc0_scratch6 hz2 _ f w

end Reads

/-- A whole rectangle stored at the elements of a full buffer's contents. -/
theorem write_to (b : Ref sig .tc) (r : Rect b.ty.shape) (f G : b.ty.Contents (Elt F)) (w : r.shape.Idx → Elt F b.ty.elt)
    (hG : ∀ j, G (r.emb j) = w j) :
    ∀ x ∈ r.set, ((Memref.whole b).access r : View sig .tc _ _ _).write (Elt F) f w Finset.univ x = G x := by
  intro x hx
  rw [← Rect.map_emb_univ] at hx
  obtain ⟨y, _, rfl⟩ := Finset.mem_map.mp hx
  exact (View.write_emb_of_mem (v := ((Memref.whole b).access r : View sig .tc _ _ _)) f w (Finset.mem_univ y)).trans (hG y).symm

/-! ## What a device holds beside the reduction buffer -/

variable (I : Dev nD → Inp F) (c : Dev nD)

/-- Its inputs; -/
def insP : sProp 𝕄 :=
  iprop((((c : Thread nD τ).loc cc0_stg0_0) ↦{fullShare} (I c).x) ∗ (((c : Thread nD τ).loc cc0_stg1_0) ↦{fullShare} (I c).rw)
    ∗ (((c : Thread nD τ).loc cc0_stg2_0) ↦{fullShare} (I c).ix) ∗ (((c : Thread nD τ).loc cc0_stg3_0) ↦{fullShare} (I c).ew)
    ∗ (((c : Thread nD τ).loc cc0_stg4_0) ↦{fullShare} (I c).sw))
/-- their rounded forms; -/
def rndP : sProp 𝕄 :=
  iprop((((c : Thread nD τ).loc cc0_scratch4) ↦{fullShare} xbF I c) ∗ (((c : Thread nD τ).loc cc0_scratch5) ↦{fullShare} ebF I c)
    ∗ (((c : Thread nD τ).loc cc0_scratch6) ↦{fullShare} sbF I c))
/-- the places for these, whatever they hold; -/
def rndE : sProp 𝕄 :=
  iprop((∃ f, ((c : Thread nD τ).loc cc0_scratch4) ↦{fullShare} f) ∗ (∃ f, ((c : Thread nD τ).loc cc0_scratch5) ↦{fullShare} f)
    ∗ (∃ f, ((c : Thread nD τ).loc cc0_scratch6) ↦{fullShare} f))
/-- a block of rows of the shared product and of the result. -/
def shP (b : Fin 4) (f : Vec F S1024x1024 .f32) : sProp 𝕄 := ((c : Thread nD τ).loc cc0_scratch3) ↦[rowsS 1024 b]{fullShare} f
/-- A block of rows of the result. -/
def outPt (b : Fin 4) (f : Vec F S1024x1024 .f32) : sProp 𝕄 := ((c : Thread nD τ).loc cc0_stg5_0) ↦[rowsS 1024 b]{fullShare} f

/-! ## Accesses of parts -/

section Parts
variable {off2 : Fin 2 → Nat} {off3 : Fin 3 → Nat}

/-- An access to a group's four chunks stays among them. -/
theorem redQ_sub (h) {b : Fin 4} (ho : off3 = ![4 * b.val, 0, 0]) :
    (redM.access (Rect.unit (s := S16x64x1024) off3 S4x64x1024.size h) : View sig .tc _ _ _).set ⊆ quadS b :=
  ((View.set_slice_whole cc0_scratch0 _).trans (set_quad h ho)).le
/-- An access to a chunk covers it. -/
theorem red_set (h) {r : Fin 16} (ho : off3 = ![r.val, 0, 0]) :
    (redM.access (Rect.unit (s := S16x64x1024) off3 S1x64x1024.size h) : View sig .tc _ _ _).set = partS 16 64 1024 r :=
  (View.set_slice_whole cc0_scratch0 _).trans (set_part h ho)
/-- A load of a chunk stays inside it. -/
theorem red_sub (h) {r : Fin 16} (ho : off3 = ![r.val, 0, 0]) :
    redM.view.setOn (Rect.unit (s := S16x64x1024) off3 S1x64x1024.size h).set ⊆ partS 16 64 1024 r :=
  ((View.set_slice _ _).symm.trans (red_set h ho)).le
/-- An access to a slot of the first landing buffer covers it. -/
theorem a_set (h) {r : Fin 12} (ho : off3 = ![r.val, 0, 0]) :
    (aM.access (Rect.unit (s := S12x64x1024) off3 S1x64x1024.size h) : View sig .tc _ _ _).set = partS 12 64 1024 r :=
  (View.set_slice_whole cc0_scratch1 _).trans (set_part h ho)
/-- A load of a slot of the first landing buffer stays inside it. -/
theorem a_sub (h) {r : Fin 12} (ho : off3 = ![r.val, 0, 0]) :
    aM.view.setOn (Rect.unit (s := S12x64x1024) off3 S1x64x1024.size h).set ⊆ partS 12 64 1024 r :=
  ((View.set_slice _ _).symm.trans (a_set h ho)).le
/-- An access to a slot of the second landing buffer covers it. -/
theorem b_set (h) {r : Fin 3} (ho : off3 = ![r.val, 0, 0]) :
    (bM.access (Rect.unit (s := S3x64x1024) off3 S1x64x1024.size h) : View sig .tc _ _ _).set = partS 3 64 1024 r :=
  (View.set_slice_whole cc0_scratch2 _).trans (set_part h ho)
/-- A load of a slot of the second landing buffer stays inside it. -/
theorem b_sub (h) {r : Fin 3} (ho : off3 = ![r.val, 0, 0]) :
    bM.view.setOn (Rect.unit (s := S3x64x1024) off3 S1x64x1024.size h).set ⊆ partS 3 64 1024 r :=
  ((View.set_slice _ _).symm.trans (b_set h ho)).le
/-- An access to a block of the shared product stays inside it. -/
theorem sh_sub (h) {b : Fin 4} (ho : off2 = ![256 * b.val, 0]) :
    (shM.access (Rect.unit (s := S1024x1024) off2 S256x1024.size h) : View sig .tc _ _ _).set ⊆ rowsS 1024 b :=
  ((View.set_slice_whole cc0_scratch3 _).trans (set_rows h ho)).le
/-- An access to a block of the result stays inside it. -/
theorem o_sub (h) {b : Fin 4} (ho : off2 = ![256 * b.val, 0]) :
    (oM.access (Rect.unit (s := S1024x1024) off2 S256x1024.size h) : View sig .tc _ _ _).set ⊆ rowsS 1024 b :=
  ((View.set_slice_whole cc0_stg5_0 _).trans (set_rows h ho)).le

/-- What a store leaves, part by part. -/
theorem stored_redQ (h) {b : Fin 4} (ho : off3 = ![4 * b.val, 0, 0]) (f G : Vec F S16x64x1024 .bf16) (w) (hG : quad G b = w) :
    (((c : Thread nD τ).loc cc0_scratch0) ↦[quadS b]{fullShare}
        ((redM.access (Rect.unit (s := S16x64x1024) off3 S4x64x1024.size h) : View sig .tc _ _ _).write (Elt F) f w Finset.univ) : sProp 𝕄) = (((c : Thread nD τ).loc cc0_scratch0) ↦[quadS b]{fullShare} G) := by
  refine pointsTo_congr fun x hx => write_to cc0_scratch0 (Rect.unit (s := S16x64x1024) off3 S4x64x1024.size h) f G w (fun j => (congrArg G (emb_quad h ho j)).trans (congrFun hG j)) x ?_
  rw [set_quad h ho]; exact hx
/-- What a store to a chunk leaves. -/
theorem stored_red (h) {r : Fin 16} (ho : off3 = ![r.val, 0, 0]) (f G : Vec F S16x64x1024 .bf16) (w) (hG : part G r = w) :
    (((c : Thread nD τ).loc cc0_scratch0) ↦[partS 16 64 1024 r]{fullShare}
        ((redM.access (Rect.unit (s := S16x64x1024) off3 S1x64x1024.size h) : View sig .tc _ _ _).write (Elt F) f w Finset.univ) : sProp 𝕄) = (((c : Thread nD τ).loc cc0_scratch0) ↦[partS 16 64 1024 r]{fullShare} G) := by
  refine pointsTo_congr fun x hx => write_to cc0_scratch0 (Rect.unit (s := S16x64x1024) off3 S1x64x1024.size h) f G w (fun j => (congrArg G (emb_part h ho j)).trans (congrFun hG j)) x ?_
  rw [set_part h ho]; exact hx
/-- What a store to a block of the shared product leaves. -/
theorem stored_sh (h) {b : Fin 4} (ho : off2 = ![256 * b.val, 0]) (f G : Vec F S1024x1024 .f32) (w) (hG : rows G b = w) :
    (((c : Thread nD τ).loc cc0_scratch3) ↦[rowsS 1024 b]{fullShare}
        ((shM.access (Rect.unit (s := S1024x1024) off2 S256x1024.size h) : View sig .tc _ _ _).write (Elt F) f w Finset.univ) : sProp 𝕄) = (((c : Thread nD τ).loc cc0_scratch3) ↦[rowsS 1024 b]{fullShare} G) := by
  refine pointsTo_congr fun x hx => write_to cc0_scratch3 (Rect.unit (s := S1024x1024) off2 S256x1024.size h) f G w (fun j => (congrArg G (emb_rows h ho j)).trans (congrFun hG j)) x ?_
  rw [set_rows h ho]; exact hx
/-- What a store to a block of the result leaves. -/
theorem stored_o (h) {b : Fin 4} (ho : off2 = ![256 * b.val, 0]) (f G : Vec F S1024x1024 .f32) (w) (hG : rows G b = w) :
    (((c : Thread nD τ).loc cc0_stg5_0) ↦[rowsS 1024 b]{fullShare}
        ((oM.access (Rect.unit (s := S1024x1024) off2 S256x1024.size h) : View sig .tc _ _ _).write (Elt F) f w Finset.univ) : sProp 𝕄) = (((c : Thread nD τ).loc cc0_stg5_0) ↦[rowsS 1024 b]{fullShare} G) := by
  refine pointsTo_congr fun x hx => write_to cc0_stg5_0 (Rect.unit (s := S1024x1024) off2 S256x1024.size h) f G w (fun j => (congrArg G (emb_rows h ho j)).trans (congrFun hG j)) x ?_
  rw [set_rows h ho]; exact hx

end Parts

/-! ## The stages -/

/-- Rounding the inputs leaves them, and fills the buffers of their rounded forms. -/
theorem run_round {Q : PUnit → sProp 𝕄} :
    iprop(insP I c ∗ rndE c) ⊢ iprop(((insP I c ∗ rndP I c) -∗ Q ⟨⟩) -∗ run c roundP Q) := by
  unfold roundP insP rndE rndP
  simp only [run, Prog.lift, Prog.bind_op, Prog.bind_ret]
  iintro ⟨⟨Hx, Hrw, Hix, Hew, Hsw⟩, ⟨%f4, H4⟩, ⟨%f5, H5⟩, ⟨%f6, H6⟩⟩ Hk
  iapply (wp_load 𝒱₀ (c : Thread nD τ) none Set.univ (m := xM) (Finset.subset_univ _)) $$ Hx; iintro Hx
  iapply (wp_load 𝒱₀ (c : Thread nD τ) none Set.univ (m := xbM) (Finset.subset_univ _)) $$ H4; iintro H4
  iapply (wp_store 𝒱₀ (c : Thread nD τ) none Set.univ (m := xbM) (r := r512) (Mk := Finset.univ) (Finset.subset_univ _)) $$ H4; iintro H4
  rw [full_x, store_xb]
  iapply (wp_load 𝒱₀ (c : Thread nD τ) none Set.univ (m := ewM) (Finset.subset_univ _)) $$ Hew; iintro Hew
  iapply (wp_load 𝒱₀ (c : Thread nD τ) none Set.univ (m := ebM) (Finset.subset_univ _)) $$ H5; iintro H5
  iapply (wp_store 𝒱₀ (c : Thread nD τ) none Set.univ (m := ebM) (r := rEw) (Mk := Finset.univ) (Finset.subset_univ _)) $$ H5; iintro H5
  rw [full_ew, store_eb]
  iapply (wp_load 𝒱₀ (c : Thread nD τ) none Set.univ (m := swM) (Finset.subset_univ _)) $$ Hsw; iintro Hsw
  iapply (wp_load 𝒱₀ (c : Thread nD τ) none Set.univ (m := sbM) (Finset.subset_univ _)) $$ H6; iintro H6
  iapply (wp_store 𝒱₀ (c : Thread nD τ) none Set.univ (m := sbM) (r := rSw) (Mk := Finset.univ) (Finset.subset_univ _)) $$ H6; iintro H6
  rw [full_sw, store_sb, wp_ret]
  imodintro
  iapply Hk
  isplitl [Hx Hrw Hix Hew Hsw]
  · isplitl [Hx]; · iexact Hx
    isplitl [Hrw]; · iexact Hrw
    isplitl [Hix]; · iexact Hix
    isplitl [Hew]; · iexact Hew
    iexact Hsw
  isplitl [H4]; · iexact H4
  isplitl [H5]; · iexact H5
  iexact H6

/-- One block's partial products are computed from the inputs and stored as its four chunks. -/
theorem run_block (b : Fin 4) {Q : PUnit → sProp 𝕄} :
    iprop(insP I c ∗ rndP I c ∗ ∃ f, redQ c b f)
      ⊢ iprop(((insP I c ∗ rndP I c ∗ redQ c b (partF I c)) -∗ Q ⟨⟩) -∗ run c (blockP c b) Q) := by
  unfold blockP loadE insP rndP redQ
  simp only [run, Prog.lift, Prog.bind_op, Prog.bind_ret]
  iintro ⟨⟨Hx, Hrw, Hix, Hew, Hsw⟩, ⟨H4, H5, H6⟩, ⟨%f, Hr⟩⟩ Hk
  iapply (wp_load 𝒱₀ (c : Thread nD τ) none Set.univ (m := xM) (Finset.subset_univ _)) $$ Hx; iintro Hx
  iapply (wp_load 𝒱₀ (c : Thread nD τ) none Set.univ (m := ixM) (Finset.subset_univ _)) $$ Hix; iintro Hix
  iapply (wp_load 𝒱₀ (c : Thread nD τ) none Set.univ (m := rwM) (Finset.subset_univ _)) $$ Hrw; iintro Hrw
  iapply (wp_load 𝒱₀ (c : Thread nD τ) none Set.univ (m := ebM) (Finset.subset_univ _)) $$ H5; iintro H5
  iapply (wp_load 𝒱₀ (c : Thread nD τ) none Set.univ (m := ebM) (Finset.subset_univ _)) $$ H5; iintro H5
  iapply (wp_load 𝒱₀ (c : Thread nD τ) none Set.univ (m := ebM) (Finset.subset_univ _)) $$ H5; iintro H5
  iapply (wp_load 𝒱₀ (c : Thread nD τ) none Set.univ (m := ebM) (Finset.subset_univ _)) $$ H5; iintro H5
  iapply (wp_load_rect 𝒱₀ (c : Thread nD τ) none Set.univ (m := redM) (redQ_sub (inbG b) rfl)) $$ Hr; iintro Hr
  iapply (wp_store 𝒱₀ (c : Thread nD τ) none Set.univ (m := redM) (r := Rect.unit (s := S16x64x1024) ![4 * b.val, 0, 0] S4x64x1024.size (inbG b)) (Mk := Finset.univ) (redQ_sub (inbG b) rfl)) $$ Hr; iintro Hr
  rw [read_x (inbX b) rfl, read_ix (inbI b) rfl, full_rw,
    read_eb (inbE 0) rfl, read_eb (inbE 1) rfl, read_eb (inbE 2) rfl, read_eb (inbE 3) rfl, wp_ret]
  imodintro
  iapply Hk
  isplitl [Hx Hrw Hix Hew Hsw]
  · isplitl [Hx]; · iexact Hx
    isplitl [Hrw]; · iexact Hrw
    isplitl [Hix]; · iexact Hix
    isplitl [Hew]; · iexact Hew
    iexact Hsw
  isplitl [H4 H5 H6]
  · isplitl [H4]; · iexact H4
    isplitl [H5]; · iexact H5
    iexact H6
  iapply (Entails.of_eq (stored_redQ c (inbG b) rfl f (partF I c) _ (quad_partF I c b))); iexact Hr

/-- One block of the shared product is computed and stored. -/
theorem run_shared (b : Fin 4) {Q : PUnit → sProp 𝕄} :
    iprop(rndP I c ∗ ∃ f, shP c b f) ⊢ iprop(((rndP I c ∗ shP c b (shF I c)) -∗ Q ⟨⟩) -∗ run c (sharedP b) Q) := by
  unfold sharedP rndP
  simp only [run, Prog.lift, Prog.bind_op, Prog.bind_ret]
  iintro ⟨⟨H4, H5, H6⟩, ⟨%f, Hr⟩⟩ Hk
  iapply (wp_load 𝒱₀ (c : Thread nD τ) none Set.univ (m := xbM) (Finset.subset_univ _)) $$ H4; iintro H4
  iapply (wp_load 𝒱₀ (c : Thread nD τ) none Set.univ (m := sbM) (Finset.subset_univ _)) $$ H6; iintro H6
  unfold shP
  iapply (wp_load_rect 𝒱₀ (c : Thread nD τ) none Set.univ (m := shM) (sh_sub (inbO b) rfl)) $$ Hr; iintro Hr
  iapply (wp_store 𝒱₀ (c : Thread nD τ) none Set.univ (m := shM) (r := Rect.unit (s := S1024x1024) ![256 * b.val, 0] S256x1024.size (inbO b)) (Mk := Finset.univ) (sh_sub (inbO b) rfl)) $$ Hr
  iintro Hr
  rw [read_xb (inbX b) rfl, full_sb, wp_ret]
  imodintro
  iapply Hk
  isplitl [H4 H5 H6]
  · isplitl [H4]; · iexact H4
    isplitl [H5]; · iexact H5
    iexact H6
  iapply (Entails.of_eq (stored_sh c (inbO b) rfl f (shF I c) _ (rows_shF I c b))); iexact Hr

/-- The own chunk of a block and the three landed ones are added up to the group's sum. -/
theorem run_sumA (b : Fin 4) {Q : PUnit → sProp 𝕄} :
    iprop(redP c (ch b (pos c)) fullShare (partF I c) ∗ three (fun j => aP c (slotA b j) (aF I c)))
      ⊢ iprop(((redP c (ch b (pos c)) fullShare (sumAF I c) ∗ three (fun j => aP c (slotA b j) (aF I c))) -∗ Q ⟨⟩) -∗ run c (sumAP c b) Q) := by
  unfold sumAP loadA three
  simp only [run, Prog.lift, Prog.bind_op, Prog.bind_ret]
  iintro ⟨Hr, H0, H1, H2⟩ Hk
  unfold redP aP
  iapply (wp_load 𝒱₀ (c : Thread nD τ) none Set.univ (m := redM) (red_sub (k0_off2_inb c b) (off2_eq c b))) $$ Hr; iintro Hr
  iapply (wp_load 𝒱₀ (c : Thread nD τ) none Set.univ (m := aM) (a_sub (inbA (slotA b 0)) rfl)) $$ H0; iintro H0
  iapply (wp_load 𝒱₀ (c : Thread nD τ) none Set.univ (m := aM) (a_sub (inbA (slotA b 1)) rfl)) $$ H1; iintro H1
  iapply (wp_load 𝒱₀ (c : Thread nD τ) none Set.univ (m := aM) (a_sub (inbA (slotA b 2)) rfl)) $$ H2; iintro H2
  iapply (wp_load 𝒱₀ (c : Thread nD τ) none Set.univ (m := redM) (red_sub (k0_off2_inb c b) (off2_eq c b))) $$ Hr; iintro Hr
  iapply (wp_store 𝒱₀ (c : Thread nD τ) none Set.univ (m := redM) (r := Rect.unit (s := S16x64x1024) (k0_off2 c (BitVec.ofNat 32 (4 * b.val))) S1x64x1024.size (k0_off2_inb c b))
    (Mk := Finset.univ) (red_set (k0_off2_inb c b) (off2_eq c b)).le) $$ Hr
  iintro Hr
  rw [read_red (k0_off2_inb c b) (off2_eq c b), read_a (inbA (slotA b 0)) rfl, read_a (inbA (slotA b 1)) rfl, read_a (inbA (slotA b 2)) rfl, sumAc_eq, wp_ret]
  imodintro
  iapply Hk
  isplitl [Hr]; · iapply (Entails.of_eq (stored_red c (k0_off2_inb c b) (off2_eq c b) (partF I c) (sumAF I c) _ (part_sumAF I c _))); iexact Hr
  isplitl [H0]; · iexact H0
  isplitl [H1]; · iexact H1
  iexact H2

/-- The group's sum of the device's chunk and the three landed ones are added up to the finished sum. -/
theorem run_sumB {Q : PUnit → sProp 𝕄} :
    iprop(redP c c fullShare (sumAF I c) ∗ three (fun t => bP c t (bF I c)))
      ⊢ iprop(((redP c c fullShare (finF I) ∗ three (fun t => bP c t (bF I c))) -∗ Q ⟨⟩) -∗ run c (sumBP c) Q) := by
  unfold sumBP loadB three
  simp only [run, Prog.lift, Prog.bind_op, Prog.bind_ret]
  iintro ⟨Hr, H0, H1, H2⟩ Hk
  unfold redP bP
  iapply (wp_load 𝒱₀ (c : Thread nD τ) none Set.univ (m := redM) (red_sub (k0_off4_inb c) (off4_eq c))) $$ Hr; iintro Hr
  iapply (wp_load 𝒱₀ (c : Thread nD τ) none Set.univ (m := bM) (b_sub (inbB 0) rfl)) $$ H0; iintro H0
  iapply (wp_load 𝒱₀ (c : Thread nD τ) none Set.univ (m := bM) (b_sub (inbB 1) rfl)) $$ H1; iintro H1
  iapply (wp_load 𝒱₀ (c : Thread nD τ) none Set.univ (m := bM) (b_sub (inbB 2) rfl)) $$ H2; iintro H2
  iapply (wp_load 𝒱₀ (c : Thread nD τ) none Set.univ (m := redM) (red_sub (k0_off4_inb c) (off4_eq c))) $$ Hr; iintro Hr
  iapply (wp_store 𝒱₀ (c : Thread nD τ) none Set.univ (m := redM) (r := Rect.unit (s := S16x64x1024) (k0_off4 c) S1x64x1024.size (k0_off4_inb c))
    (Mk := Finset.univ) (red_set (k0_off4_inb c) (off4_eq c)).le) $$ Hr
  iintro Hr
  rw [read_red (k0_off4_inb c) (off4_eq c), read_b (inbB 0) rfl, read_b (inbB 1) rfl, read_b (inbB 2) rfl, finC_eq, wp_ret]
  imodintro
  iapply Hk
  isplitl [Hr]; · iapply (Entails.of_eq (stored_red c (k0_off4_inb c) (off4_eq c) (sumAF I c) (finF I) _ (part_finF I c))); iexact Hr
  isplitl [H0]; · iexact H0
  isplitl [H1]; · iexact H1
  iexact H2

/-- One block of the result: the finished chunks of the block and the shared product, added and stored. -/
theorem run_out (t : Fin 4) {Q : PUnit → sProp 𝕄} :
    iprop(redQ c (gr c t) (finF I) ∗ shP c (gr c t) (shF I c) ∗ ∃ f, outPt c (gr c t) f)
      ⊢ iprop(((redQ c (gr c t) (finF I) ∗ shP c (gr c t) (shF I c) ∗ outPt c (gr c t) (outF I c)) -∗ Q ⟨⟩) -∗ run c (outP c t) Q) := by
  unfold outP
  simp only [run, Prog.lift, Prog.bind_op, Prog.bind_ret]
  iintro ⟨Hr, Hs, ⟨%f, Ho⟩⟩ Hk
  unfold redQ shP outPt
  iapply (wp_load_rect 𝒱₀ (c : Thread nD τ) none Set.univ (m := redM) (redQ_sub (k0_off6_inb c t) (off6_eq c t))) $$ Hr; iintro Hr
  iapply (wp_load_rect 𝒱₀ (c : Thread nD τ) none Set.univ (m := shM) (sh_sub (k0_off7_inb c t) (off7_eq c t))) $$ Hs; iintro Hs
  iapply (wp_load_rect 𝒱₀ (c : Thread nD τ) none Set.univ (m := oM) (o_sub (k0_off7_inb c t) (off7_eq c t))) $$ Ho; iintro Ho
  iapply (wp_store 𝒱₀ (c : Thread nD τ) none Set.univ (m := oM) (r := Rect.unit (s := S1024x1024) (k0_off7 c (BitVec.ofNat 32 t.val)) S256x1024.size (k0_off7_inb c t))
    (Mk := Finset.univ) (o_sub (k0_off7_inb c t) (off7_eq c t))) $$ Ho
  iintro Ho
  rw [wp_ret]
  imodintro
  iapply Hk
  isplitl [Hr]; · iexact Hr
  isplitl [Hs]; · iexact Hs
  iapply (Entails.of_eq (stored_o c (k0_off7_inb c t) (off7_eq c t) f (outF I c) _ ((rows_outF I c (gr c t)).trans
    (congrArg₂ outOf (read_redQ (k0_off6_inb c t) (off6_eq c t) (finF I)).symm (read_sh (k0_off7_inb c t) (off7_eq c t) (shF I c)).symm)))); iexact Ho

end Cert.Moe
-- ==== Proof.Regroup.lean ====
/-
# 01_k — regrouping

The same things in another order: a landing buffer by step and group, a group's four chunks by position, the four
groups from a device's own outward.
-/
module

public import proofs.«01_k».proof.Proof.Stages
public import Idealize.ShloMosaic.Lib.Ring

@[expose] public section

noncomputable section

namespace Cert.Moe

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

/-! ## Orders of three and of four -/

/-- Three things, listed. -/
theorem three_eq (Φ : Fin 3 → sProp 𝕄) : three Φ = iprop(Φ 0 ∗ Φ 1 ∗ Φ 2) := rfl
/-- Four things, listed. -/
theorem four_eq (Φ : Fin 4 → sProp 𝕄) : four Φ = iprop(Φ 0 ∗ Φ 1 ∗ Φ 2 ∗ Φ 3) := rfl
/-- Three things in reverse order are the same three. -/
theorem three_rev (Φ : Fin 3 → sProp 𝕄) : three (fun j => Φ j.rev) = three Φ := by
  rw [← bigSep_three, ← bigSep_three Φ]; exact (bigSep_univ_equiv Fin.revPerm Φ).symm
/-- Three times four things are four times three. -/
theorem three_four (Φ : Fin 3 → Fin 4 → sProp 𝕄) : (three fun j => four (Φ j)) = four fun b => three fun j => Φ j b := by
  have h1 : (three fun j => four (Φ j)) = bigSep Finset.univ fun p : Fin 3 × Fin 4 => Φ p.1 p.2 := by
    rw [bigSep_univ_prod, bigSep_three]; exact congrArg three (funext fun j => (bigSep_four (Φ j)).symm)
  have h2 : (four fun b => three fun j => Φ j b) = bigSep Finset.univ fun p : Fin 4 × Fin 3 => Φ p.2 p.1 := by
    rw [bigSep_univ_prod, bigSep_four]; exact congrArg four (funext fun b => (bigSep_three fun j => Φ j b).symm)
  rw [h1, h2]; exact bigSep_univ_equiv (Equiv.prodComm (Fin 4) (Fin 3)) _
/-- The groups counted from a device's own. -/
theorem gr_bij (c : Dev nD) : Function.Bijective (gr c) := by revert c; decide +kernel
/-- Things by group may be counted from a device's own group. -/
theorem four_gr (c : Dev nD) (Φ : Fin 4 → sProp 𝕄) : (four fun t => Φ (gr c t)) = four Φ := by
  rw [← bigSep_four, ← bigSep_four Φ]; exact (bigSep_univ_equiv (Equiv.ofBijective (gr c) (gr_bij c)) Φ).symm
/-- Devices of one group count the groups alike. -/
theorem gr_grpD (c : Dev nD) (j : Fin 3) (t : Fin 4) : gr (grpD c j) t = gr c t := by revert c j t; decide +kernel
/-- A neighbour's counterpart `t` groups further is that group's chunk at the neighbour's position. -/
theorem ch_pos_grpD (c : Dev nD) (j : Fin 3) (t : Fin 4) : ct (grpD c j) t = ch (gr c t) (pos (grpD c j)) := by
  rw [ct_eq_ch, gr_grpD]

/-- Three implications one by one. -/
theorem three_mono {Φ Ψ : Fin 3 → sProp 𝕄} (h : ∀ j, Φ j ⊢ Ψ j) : three Φ ⊢ three Ψ :=
  Laws.sep_mono (h 0) (Laws.sep_mono (h 1) (h 2))
/-- Four implications one by one. -/
theorem four_mono {Φ Ψ : Fin 4 → sProp 𝕄} (h : ∀ j, Φ j ⊢ Ψ j) : four Φ ⊢ four Ψ :=
  Laws.sep_mono (h 0) (Laws.sep_mono (h 1) (Laws.sep_mono (h 2) (h 3)))
/-- Three pairs are a pair of threes. -/
theorem three_sep (Φ Ψ : Fin 3 → sProp 𝕄) : (three fun j => iprop(Φ j ∗ Ψ j)) = iprop(three Φ ∗ three Ψ) := by
  rw [← bigSep_three, ← bigSep_three, ← bigSep_three, bigSep_sep']
/-- Four pairs are a pair of fours. -/
theorem four_sep (Φ Ψ : Fin 4 → sProp 𝕄) : (four fun j => iprop(Φ j ∗ Ψ j)) = iprop(four Φ ∗ four Ψ) := by
  rw [← bigSep_four, ← bigSep_four, ← bigSep_four, bigSep_sep']

/-! ## The landing buffers by their slots -/

variable (c : Dev nD)

/-- Step and group name each slot of the first landing buffer once. -/
theorem slotA_bij : Function.Bijective fun p : Fin 3 × Fin 4 => slotA p.2 p.1 := by decide +kernel

/-- Things by slot of the first landing buffer, by step and group. -/
theorem bigSep_slots (Φ : Fin 12 → sProp 𝕄) : bigSep Finset.univ Φ = three fun j => four fun b => Φ (slotA b j) := by
  rw [bigSep_univ_equiv (Equiv.ofBijective _ slotA_bij) Φ, bigSep_univ_prod, bigSep_three]
  exact congrArg three (funext fun j => bigSep_four fun b => Φ (slotA b j))

/-- Each buffer is its parts. -/
theorem a_whole (f : Vec F S12x64x1024 .bf16) :
    (((c : Thread nD τ).loc cc0_scratch1) ↦{fullShare} f : sProp 𝕄) = bigSep Finset.univ fun i => aP c i f :=
  Ring.pointsTo_blocks (ℓ := (c : Thread nD τ).loc cc0_scratch1) (partS 12 64 1024) (partS_disj 12 64 1024) (partS_cover 12 64 1024) (q := fullShare) f
/-- The second landing buffer is its three slots. -/
theorem b_whole (f : Vec F S3x64x1024 .bf16) :
    (((c : Thread nD τ).loc cc0_scratch2) ↦{fullShare} f : sProp 𝕄) = bigSep Finset.univ fun i => bP c i f :=
  Ring.pointsTo_blocks (ℓ := (c : Thread nD τ).loc cc0_scratch2) (partS 3 64 1024) (partS_disj 3 64 1024) (partS_cover 3 64 1024) (q := fullShare) f
/-- The reduction buffer is its four groups of chunks. -/
theorem red_whole (f : Vec F S16x64x1024 .bf16) :
    (((c : Thread nD τ).loc cc0_scratch0) ↦{fullShare} f : sProp 𝕄) = bigSep Finset.univ fun b => redQ c b f :=
  Ring.pointsTo_blocks (ℓ := (c : Thread nD τ).loc cc0_scratch0) quadS quadS_disj quadS_cover (q := fullShare) f
/-- The shared product is its four blocks. -/
theorem sh_whole (f : Vec F S1024x1024 .f32) :
    (((c : Thread nD τ).loc cc0_scratch3) ↦{fullShare} f : sProp 𝕄) = bigSep Finset.univ fun b => shP c b f :=
  Ring.pointsTo_blocks (ℓ := (c : Thread nD τ).loc cc0_scratch3) (rowsS 1024) (rowsS_disj 1024) (rowsS_cover 1024) (q := fullShare) f
/-- The result is its four blocks. -/
theorem out_whole (f : Vec F S1024x1024 .f32) :
    (((c : Thread nD τ).loc cc0_stg5_0) ↦{fullShare} f : sProp 𝕄) = bigSep Finset.univ fun b => outPt c b f :=
  Ring.pointsTo_blocks (ℓ := (c : Thread nD τ).loc cc0_stg5_0) (rowsS 1024) (rowsS_disj 1024) (rowsS_cover 1024) (q := fullShare) f
/-- A group's four chunks, one by one. -/
theorem quad_whole (b : Fin 4) (f : Vec F S16x64x1024 .bf16) :
    (redQ c b f : sProp 𝕄) = bigSep Finset.univ fun q => redP c (ch b q) fullShare f :=
  Ring.pointsTo_sub_blocks (ℓ := (c : Thread nD τ).loc cc0_scratch0) (fun q => partS 16 64 1024 (ch b q)) (quadS_parts_disj b) (quadS b) (quadS_parts b) (q := fullShare) f

/-- The first landing buffer slot by slot, -/
theorem a_split : iprop(∃ f, ((c : Thread nD τ).loc cc0_scratch1) ↦{fullShare} f) ⊢ (three fun j => four fun b => aE c (slotA b j) : sProp 𝕄) := by
  iintro ⟨%f, H⟩
  iapply ((Entails.of_eq ((a_whole c f).trans (bigSep_slots (F := F) (fun i => aP c i f)))).trans
    (three_mono fun j => four_mono fun b => show aP c (slotA b j) f ⊢ aE c (slotA b j) from by unfold aE; iintro H; iexists f; iexact H))
  iexact H
/-- The first landing buffer put together again from its slots. -/
theorem a_join (f : Vec F S12x64x1024 .bf16) : (four fun b => three fun j => aP c (slotA b j) f : sProp 𝕄) ⊢ ((c : Thread nD τ).loc cc0_scratch1) ↦{fullShare} f :=
  Entails.of_eq (((three_four _).symm.trans (bigSep_slots (F := F) (fun i => aP c i f)).symm).trans
    (a_whole c f).symm)
/-- the second, -/
theorem b_split : iprop(∃ f, ((c : Thread nD τ).loc cc0_scratch2) ↦{fullShare} f) ⊢ (three fun t => bE c t : sProp 𝕄) := by
  iintro ⟨%f, H⟩
  iapply ((Entails.of_eq ((b_whole c f).trans (bigSep_three (F := F) (fun i => bP c i f)))).trans
    (three_mono fun j => show bP c j f ⊢ bE c j from by unfold bE; iintro H; iexists f; iexact H))
  iexact H
/-- The second landing buffer put together again from its slots. -/
theorem b_join (f : Vec F S3x64x1024 .bf16) : (three fun t => bP c t f : sProp 𝕄) ⊢ ((c : Thread nD τ).loc cc0_scratch2) ↦{fullShare} f :=
  Entails.of_eq ((bigSep_three (F := F) (fun i => bP c i f)).symm.trans
    (b_whole c f).symm)
/-- the reduction buffer group by group, -/
theorem red_split : iprop(∃ f, ((c : Thread nD τ).loc cc0_scratch0) ↦{fullShare} f) ⊢ (four fun b => iprop(∃ f, redQ c b f) : sProp 𝕄) := by
  iintro ⟨%f, H⟩
  iapply ((Entails.of_eq ((red_whole c f).trans (bigSep_four (F := F) (fun b => redQ c b f)))).trans
    (four_mono fun b => show redQ c b f ⊢ iprop(∃ f, redQ c b f) from by iintro H; iexists f; iexact H))
  iexact H
/-- The reduction buffer put together again from its groups. -/
theorem red_join (f : Vec F S16x64x1024 .bf16) : (four fun t => redQ c (gr c t) f : sProp 𝕄) ⊢ ((c : Thread nD τ).loc cc0_scratch0) ↦{fullShare} f :=
  Entails.of_eq (((four_gr c fun b => redQ c b f).trans (bigSep_four (F := F) (fun b => redQ c b f)).symm).trans (red_whole c f).symm)
/-- the shared product and the result block by block. -/
theorem sh_split : iprop(∃ f, ((c : Thread nD τ).loc cc0_scratch3) ↦{fullShare} f) ⊢ (four fun b => iprop(∃ f, shP c b f) : sProp 𝕄) := by
  iintro ⟨%f, H⟩
  iapply ((Entails.of_eq ((sh_whole c f).trans (bigSep_four (F := F) (fun b => shP c b f)))).trans
    (four_mono fun b => show shP c b f ⊢ iprop(∃ f, shP c b f) from by iintro H; iexists f; iexact H))
  iexact H
/-- The shared product put together again from its blocks. -/
theorem sh_join (f : Vec F S1024x1024 .f32) : (four fun t => shP c (gr c t) f : sProp 𝕄) ⊢ ((c : Thread nD τ).loc cc0_scratch3) ↦{fullShare} f :=
  Entails.of_eq (((four_gr c fun b => shP c b f).trans (bigSep_four (F := F) (fun b => shP c b f)).symm).trans
    (sh_whole c f).symm)
/-- The result split into its blocks. -/
theorem out_split : iprop(∃ f, ((c : Thread nD τ).loc cc0_stg5_0) ↦{fullShare} f) ⊢ (four fun t => iprop(∃ f, outPt c (gr c t) f) : sProp 𝕄) := by
  iintro ⟨%f, H⟩
  iapply ((Entails.of_eq (((out_whole c f).trans (bigSep_four (F := F) (fun b => outPt c b f))).trans
      (four_gr c fun b => outPt c b f).symm)).trans
    (four_mono fun b => show outPt c (gr c b) f ⊢ iprop(∃ f, outPt c (gr c b) f) from by iintro H; iexists f; iexact H))
  iexact H
/-- The result put together again from its blocks. -/
theorem out_join (f : Vec F S1024x1024 .f32) : (four fun t => outPt c (gr c t) f : sProp 𝕄) ⊢ ((c : Thread nD τ).loc cc0_stg5_0) ↦{fullShare} f :=
  Entails.of_eq (((four_gr c fun b => outPt c b f).trans (bigSep_four (F := F) (fun b => outPt c b f)).symm).trans
    (out_whole c f).symm)

/-! ## A group's four chunks, and a chunk's shares -/

/-- A group's four chunks: the one at the device's own position, and the ones at its three neighbours'. -/
theorem quad_parts (b : Fin 4) (f : Vec F S16x64x1024 .bf16) :
    (redQ c b f : sProp 𝕄) = iprop(redP c (ch b (pos c)) fullShare f ∗ three fun j => redP c (ch b (pos (grpD c j))) fullShare f) := by
  have h : (Finset.univ : Finset (Fin 4)) = [pos c, pos (grpD c 0), pos (grpD c 1), pos (grpD c 2)].toFinset := by revert c; decide +kernel
  have h' : [pos c, pos (grpD c 0), pos (grpD c 1), pos (grpD c 2)].Nodup := by revert c; decide +kernel
  exact (quad_whole c b f).trans
    (bigSep_univ_eq_bigSepL _ h h' fun q => redP c (ch b q) fullShare f)

/-- A whole chunk is the three shares its group copies read, and the half its crossing copies read; -/
theorem red_left (r : Fin 16) (f : Vec F S16x64x1024 .bf16) :
    (redP c r fullShare f : sProp 𝕄) ⊣⊢ iprop((three fun j => redP c r (shD j) f) ∗ redP c r fullShare.right f) :=
  ⟨(pointsTo_share (PosShare.mem_left_op_right fullShare)).1.trans (Laws.sep_mono (Ring.pointsTo_thirds _ _).1 (BI.Entails.refl _)),
   (Laws.sep_mono (Ring.pointsTo_thirds _ _).2 (BI.Entails.refl _)).trans (pointsTo_share (PosShare.mem_left_op_right fullShare)).2⟩
/-- that half is the three shares these read. -/
theorem red_right (r : Fin 16) (f : Vec F S16x64x1024 .bf16) :
    (redP c r fullShare.right f : sProp 𝕄) ⊣⊢ three fun t => redP c r (shC t) f :=
  Ring.pointsTo_thirds _ _

end Cert.Moe
-- ==== Proof.Body.lean ====
/-
# 01_k — the body

The stages composed: the handshake at entry, the two reductions, the two gathers.
-/
module

public import proofs.«01_k».proof.Proof.Regroup

@[expose] public section

noncomputable section

namespace Cert.Moe

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Inp F) (K : Key → ℕ) (c : Dev nD)

/-! ## Entry -/

/-- What the signals hand over, neighbour by neighbour. -/
theorem pay_grp (j : Fin 3) : (four fun b => aE c (slotA b j.rev) : sProp 𝕄) = barPay (btgt c (false, j)) (false, j) := by
  show _ = four fun b => aE (grpD (grpD c j) j.rev) (slotA b j.rev)
  rw [grpD_rev]
/-- The slot of the second landing buffer is what the signal to a crossing neighbour hands over. -/
theorem pay_crs (t : Fin 3) : (bE c t.rev : sProp 𝕄) = barPay (btgt c (true, t)) (true, t) := by
  show _ = bE (crsD (crsD c t) t.rev) t.rev
  rw [crsD_rev]
/-- The group neighbours' signals give device `c` the slots of their first landing buffers it will write. -/
theorem pays_grp : (three fun j => barPay c (false, j) : sProp 𝕄) = four fun b => three fun j => aE (grpD c j) (slotA b j) := by
  rw [← three_four]
  exact three_rev fun j => four fun b => aE (grpD c j) (slotA b j)
/-- The crossing neighbours' signals give device `c` the slots of their second landing buffers it will write. -/
theorem pays_crs : (three fun t => barPay c (true, t) : sProp 𝕄) = three fun t => bE (crsD c t) t :=
  three_rev fun t => bE (crsD c t) t

/-- The entry: six signals, the inputs rounded, and the wait for the six neighbours' signals. -/
theorem run_entry {Q : PUnit → sProp 𝕄} :
    iprop(records I K ∗ levAts L lv ∗ owesX c 0 ∗ atPos ER (barCell c) 0 ∅ 0 ∗ cred (tallyAt (barCell c) () 6)
        ∗ (three fun j => dutyTok ER (barCell (btgt c (false, j))) 0 (false, j)) ∗ (three fun t => dutyTok ER (barCell (btgt c (true, t))) 0 (true, t))
        ∗ insP I c ∗ rndE c ∗ (∃ f, ((c : Thread nD τ).loc cc0_scratch1) ↦{fullShare} f) ∗ (∃ f, ((c : Thread nD τ).loc cc0_scratch2) ↦{fullShare} f))
      ⊢ iprop(((owesX c 6 ∗ semVal (barCell c) 0 ∗ insP I c ∗ rndP I c ∗ (four fun b => three fun j => aE (grpD c j) (slotA b j))
          ∗ (three fun t => bE (crsD c t) t)) -∗ Q ⟨⟩) -∗ run c (entryP c) Q) := by
  unfold entryP
  iintro ⟨#HR, #HL, Ho, Hat, Hcr, Htg, Htc, Hin, Hrn, Ha, Hb⟩ Hk
  ihave Ha := (a_split c).trans (Entails.of_eq (three_rev fun j => four fun b => aE c (slotA b j)).symm) $$ Ha
  ihave Hb := (b_split c).trans (Entails.of_eq (three_rev fun t => bE c t).symm) $$ Hb
  ihave Ha := Entails.of_eq (three_eq _) $$ Ha
  ihave Hb := Entails.of_eq (three_eq _) $$ Hb
  ihave Htg := Entails.of_eq (three_eq _) $$ Htg
  ihave Htc := Entails.of_eq (three_eq _) $$ Htc
  icases Ha with ⟨Ha0, Ha1, Ha2⟩
  icases Hb with ⟨Hb0, Hb1, Hb2⟩
  icases Htg with ⟨Tg0, Tg1, Tg2⟩
  icases Htc with ⟨Tc0, Tc1, Tc2⟩
  rw [run, wp_bind]
  iapply (run_signal I K c (false, 0) 0 rfl) $$ [Ho Tg0 Ha0]
  · isplitr; · iexact HR
    isplitl [Ho]; · iexact Ho
    isplitl [Tg0]; · iexact Tg0
    iapply (Entails.of_eq (pay_grp c 0)); iexact Ha0
  iintro Ho; rw [wp_bind]
  iapply (run_signal I K c (true, 0) 1 rfl) $$ [Ho Tc0 Hb0]
  · isplitr; · iexact HR
    isplitl [Ho]; · iexact Ho
    isplitl [Tc0]; · iexact Tc0
    iapply (Entails.of_eq (pay_crs c 0)); iexact Hb0
  iintro Ho; rw [wp_bind]
  iapply (run_signal I K c (false, 1) 2 rfl) $$ [Ho Tg1 Ha1]
  · isplitr; · iexact HR
    isplitl [Ho]; · iexact Ho
    isplitl [Tg1]; · iexact Tg1
    iapply (Entails.of_eq (pay_grp c 1)); iexact Ha1
  iintro Ho; rw [wp_bind]
  iapply (run_signal I K c (true, 1) 3 rfl) $$ [Ho Tc1 Hb1]
  · isplitr; · iexact HR
    isplitl [Ho]; · iexact Ho
    isplitl [Tc1]; · iexact Tc1
    iapply (Entails.of_eq (pay_crs c 1)); iexact Hb1
  iintro Ho; rw [wp_bind]
  iapply (run_signal I K c (false, 2) 4 rfl) $$ [Ho Tg2 Ha2]
  · isplitr; · iexact HR
    isplitl [Ho]; · iexact Ho
    isplitl [Tg2]; · iexact Tg2
    iapply (Entails.of_eq (pay_grp c 2)); iexact Ha2
  iintro Ho; rw [wp_bind]
  iapply (run_signal I K c (true, 2) 5 rfl) $$ [Ho Tc2 Hb2]
  · isplitr; · iexact HR
    isplitl [Ho]; · iexact Ho
    isplitl [Tc2]; · iexact Tc2
    iapply (Entails.of_eq (pay_crs c 2)); iexact Hb2
  iintro Ho; rw [wp_bind]
  iapply (run_round I c) $$ [Hin Hrn]
  · isplitl [Hin] <;> iassumption
  iintro ⟨Hin, Hrn⟩
  iapply (run_barrier I K c) $$ [Ho Hat Hcr]
  · isplitr; · iexact HR
    isplitr; · iexact HL
    isplitl [Ho]; · iexact Ho
    isplitl [Hat] <;> iassumption
  iintro ⟨Ho, Hz, Hpg, Hpc⟩
  iapply Hk
  isplitl [Ho]; · iexact Ho
  isplitl [Hz]; · iexact Hz
  isplitl [Hin]; · iexact Hin
  isplitl [Hrn]; · iexact Hrn
  isplitl [Hpg]; · iapply (Entails.of_eq (pays_grp c)); iexact Hpg
  iapply (Entails.of_eq (pays_crs c)); iexact Hpc

/-! ## The reductions -/

/-- One block: the partial products, and three of its four chunks sent. -/
theorem run_make (b : Fin 4) (n : ℕ) (hn : n = 6 + 3 * b.val) {Q : PUnit → sProp 𝕄} :
    iprop(records I K ∗ insP I c ∗ rndP I c ∗ owesX c n ∗ (∃ f, redQ c b f) ∗ (three fun j => aE (grpD c j) (slotA b j)) ∗ (three fun j => chan0 c (.A b j)))
      ⊢ iprop(((insP I c ∗ rndP I c ∗ owesX c (n + 3) ∗ redP c (ch b (pos c)) fullShare (partF I c) ∗ (three fun j => chan1 c (.A b j))) -∗ Q ⟨⟩)
        -∗ run c (makeP c b) Q) := by
  unfold makeP
  iintro ⟨#HR, Hin, Hrn, Ho, Hr, Ha, Hc⟩ Hk
  rw [run, wp_bind]
  iapply (run_block I c b) $$ [Hin Hrn Hr]
  · isplitl [Hin]; · iexact Hin
    isplitl [Hrn] <;> iassumption
  iintro ⟨Hin, Hrn, Hr⟩
  ihave Hr := Entails.of_eq (quad_parts c b (partF I c)) $$ Hr
  icases Hr with ⟨Hown, Hr⟩
  iapply (run_sends I K c (.A b) n (fun j => by rw [hn]; show 6 + (3 * b.val + j.val) = _; omega)) $$ [Ho Hr Ha Hc]
  · isplitr; · iexact HR
    isplitl [Hr Ha]
    · iapply (Entails.of_eq (three_sep (fun j => redP c (ch b (pos (grpD c j))) fullShare (partF I c)) (fun j => aE (grpD c j) (slotA b j))).symm)
      isplitl [Hr] <;> iassumption
    isplitl [Ho] <;> iassumption
  iintro ⟨Ho, Hc⟩
  iapply Hk
  isplitl [Hin]; · iexact Hin
  isplitl [Hrn]; · iexact Hrn
  isplitl [Ho]; · iexact Ho
  isplitl [Hown] <;> iassumption

/-- One block: three landings, and the group's sum of the device's own chunk. -/
theorem run_reduce (b : Fin 4) {Q : PUnit → sProp 𝕄} :
    iprop(records I K ∗ levAts L lv ∗ owesX c 18 ∗ redP c (ch b (pos c)) fullShare (partF I c) ∗ (three fun j => chan1 c (.A b j)))
      ⊢ iprop(((owesX c 18 ∗ redP c (ch b (pos c)) fullShare (sumAF I c) ∗ (three fun j => chan2 c (.A b j)) ∗ (three fun j => aP c (slotA b j) (aF I c))
          ∗ (three fun j => redE (grpD c j) (ch b (pos c)))) -∗ Q ⟨⟩) -∗ run c (reduceP c b) Q) := by
  unfold reduceP
  iintro ⟨#HR, #HL, Ho, Hr, Hc⟩ Hk
  rw [run, wp_bind]
  iapply (run_waits I K c (.A b) 18 (fun j d hd => by
    rcases d with d | k
    · exact absurd hd (by revert d; decide)
    · revert b j k; decide)) $$ [Ho Hc]
  · isplitr; · iexact HR
    isplitr; · iexact HL
    isplitl [Ho] <;> iassumption
  iintro ⟨Ho, Hc, -, Hp⟩
  ihave Hp := Entails.of_eq (show (three fun j => recvPay I c (.A b j)) = _ from three_sep (fun j => aP c (slotA b j) (aF I c)) (fun j => redE (grpD c j.rev) (ch b (pos c)))) $$ Hp
  icases Hp with ⟨Ha, He⟩
  iapply (run_sumA I c b) $$ [Hr Ha]
  · isplitl [Hr] <;> iassumption
  iintro ⟨Hr, Ha⟩
  iapply Hk
  isplitl [Ho]; · iexact Ho
  isplitl [Hr]; · iexact Hr
  isplitl [Hc]; · iexact Hc
  isplitl [Ha]; · iexact Ha
  iapply (Entails.of_eq (three_rev fun j => redE (grpD c j) (ch b (pos c)))); iexact He

/-- A device's own chunk of each group: its own, and the three it sends across. -/
theorem own_chunks (f : Vec F S16x64x1024 .bf16) :
    (four fun b => redP c (ch b (pos c)) fullShare f : sProp 𝕄) = iprop(redP c c fullShare f ∗ three fun t => redP c (crsD c t) fullShare f) := by
  rw [← four_gr c]
  have h : (fun t => redP c (ch (gr c t) (pos c)) fullShare f : Fin 4 → sProp 𝕄) = fun t => redP c (ct c t) fullShare f :=
    funext fun t => by rw [ct_eq_ch]
  rw [h]
  show iprop(redP c (ct c 0) fullShare f ∗ redP c (ct c 1) fullShare f ∗ redP c (ct c 2) fullShare f ∗ redP c (ct c 3) fullShare f) = _
  rw [ct_zero]; rfl
/-- The places the group copies will write. -/
theorem own_places : (four fun b => three fun j => redE (grpD c j) (ch b (pos c)) : sProp 𝕄) = four fun t => three fun j => redE (grpD c j) (ct c t) := by
  rw [← four_gr c]
  exact congrArg four (funext fun t => by rw [ct_eq_ch])

/-- The two reductions: the partial products, the group's sums and the finished sum of the device's own chunk. -/
theorem run_reduceAll {Q : PUnit → sProp 𝕄} :
    iprop(records I K ∗ levAts L lv ∗ owesX c 6 ∗ insP I c ∗ rndP I c ∗ (four fun b => iprop(∃ f, redQ c b f)) ∗ (four fun b => iprop(∃ f, shP c b f))
        ∗ (four fun b => three fun j => aE (grpD c j) (slotA b j)) ∗ (three fun t => bE (crsD c t) t)
        ∗ (four fun b => three fun j => chan0 c (.A b j)) ∗ (three fun t => chan0 c (.B t)))
      ⊢ iprop(((owesX c 21 ∗ insP I c ∗ rndP I c ∗ redP c c fullShare (finF I) ∗ (four fun b => shP c b (shF I c))
          ∗ (four fun t => three fun j => redE (grpD c j) (ct c t)) ∗ (three fun t => redE (crsD c t) c)
          ∗ (((c : Thread nD τ).loc cc0_scratch1) ↦{fullShare} aF I c) ∗ (((c : Thread nD τ).loc cc0_scratch2) ↦{fullShare} bF I c)
          ∗ (four fun b => three fun j => chan2 c (.A b j)) ∗ (three fun t => chan2 c (.B t))) -∗ Q ⟨⟩) -∗ run c (reduceAll c) Q) := by
  unfold reduceAll
  iintro ⟨#HR, #HL, Ho, Hin, Hrn, Hr, Hs, Ha, Hb, HcA, HcB⟩ Hk
  ihave Hr := Entails.of_eq (four_eq _) $$ Hr
  icases Hr with ⟨Hr0, Hr1, Hr2, Hr3⟩
  ihave Hs := Entails.of_eq (four_eq _) $$ Hs
  icases Hs with ⟨Hs0, Hs1, Hs2, Hs3⟩
  ihave Ha := Entails.of_eq (four_eq _) $$ Ha
  icases Ha with ⟨Ha0, Ha1, Ha2, Ha3⟩
  ihave HcA := Entails.of_eq (four_eq _) $$ HcA
  icases HcA with ⟨Hc0, Hc1, Hc2, Hc3⟩
  rw [run, wp_bind]
  iapply (run_make I K c 0 6 rfl) $$ [Hin Hrn Ho Hr0 Ha0 Hc0]
  · isplitr; · iexact HR
    isplitl [Hin]; · iexact Hin
    isplitl [Hrn]; · iexact Hrn
    isplitl [Ho]; · iexact Ho
    isplitl [Hr0]; · iexact Hr0
    isplitl [Ha0] <;> iassumption
  iintro ⟨Hin, Hrn, Ho, Hr0, Hc0⟩; rw [wp_bind]
  iapply (run_make I K c 1 9 rfl) $$ [Hin Hrn Ho Hr1 Ha1 Hc1]
  · isplitr; · iexact HR
    isplitl [Hin]; · iexact Hin
    isplitl [Hrn]; · iexact Hrn
    isplitl [Ho]; · iexact Ho
    isplitl [Hr1]; · iexact Hr1
    isplitl [Ha1] <;> iassumption
  iintro ⟨Hin, Hrn, Ho, Hr1, Hc1⟩; rw [wp_bind]
  iapply (run_make I K c 2 12 rfl) $$ [Hin Hrn Ho Hr2 Ha2 Hc2]
  · isplitr; · iexact HR
    isplitl [Hin]; · iexact Hin
    isplitl [Hrn]; · iexact Hrn
    isplitl [Ho]; · iexact Ho
    isplitl [Hr2]; · iexact Hr2
    isplitl [Ha2] <;> iassumption
  iintro ⟨Hin, Hrn, Ho, Hr2, Hc2⟩; rw [wp_bind]
  iapply (run_make I K c 3 15 rfl) $$ [Hin Hrn Ho Hr3 Ha3 Hc3]
  · isplitr; · iexact HR
    isplitl [Hin]; · iexact Hin
    isplitl [Hrn]; · iexact Hrn
    isplitl [Ho]; · iexact Ho
    isplitl [Hr3]; · iexact Hr3
    isplitl [Ha3] <;> iassumption
  iintro ⟨Hin, Hrn, Ho, Hr3, Hc3⟩; rw [wp_bind]
  iapply (run_shared I c 0) $$ [Hrn Hs0]
  · isplitl [Hrn] <;> iassumption
  iintro ⟨Hrn, Hs0⟩; rw [wp_bind]
  iapply (run_shared I c 1) $$ [Hrn Hs1]
  · isplitl [Hrn] <;> iassumption
  iintro ⟨Hrn, Hs1⟩; rw [wp_bind]
  iapply (run_reduce I K c 0) $$ [Ho Hr0 Hc0]
  · isplitr; · iexact HR
    isplitr; · iexact HL
    isplitl [Ho]; · iexact Ho
    isplitl [Hr0] <;> iassumption
  iintro ⟨Ho, Hr0, Hc0, Ha0, He0⟩; rw [wp_bind]
  iapply (run_reduce I K c 1) $$ [Ho Hr1 Hc1]
  · isplitr; · iexact HR
    isplitr; · iexact HL
    isplitl [Ho]; · iexact Ho
    isplitl [Hr1] <;> iassumption
  iintro ⟨Ho, Hr1, Hc1, Ha1, He1⟩; rw [wp_bind]
  iapply (run_reduce I K c 2) $$ [Ho Hr2 Hc2]
  · isplitr; · iexact HR
    isplitr; · iexact HL
    isplitl [Ho]; · iexact Ho
    isplitl [Hr2] <;> iassumption
  iintro ⟨Ho, Hr2, Hc2, Ha2, He2⟩; rw [wp_bind]
  iapply (run_reduce I K c 3) $$ [Ho Hr3 Hc3]
  · isplitr; · iexact HR
    isplitr; · iexact HL
    isplitl [Ho]; · iexact Ho
    isplitl [Hr3] <;> iassumption
  iintro ⟨Ho, Hr3, Hc3, Ha3, He3⟩; rw [wp_bind]
  ihave Hown := (Entails.of_eq (own_chunks c (sumAF I c))) $$ [Hr0 Hr1 Hr2 Hr3]
  · unfold four
    isplitl [Hr0]; · iexact Hr0
    isplitl [Hr1]; · iexact Hr1
    isplitl [Hr2] <;> iassumption
  icases Hown with ⟨Hown, Hcrs⟩
  iapply (run_sends I K c .B 18 (fun j => by show 6 + (12 + j.val) = _; omega)) $$ [Ho Hcrs Hb HcB]
  · isplitr; · iexact HR
    isplitl [Hcrs Hb]
    · iapply (Entails.of_eq (three_sep (fun t => redP c (crsD c t) fullShare (sumAF I c)) (fun t => bE (crsD c t) t)).symm)
      isplitl [Hcrs] <;> iassumption
    isplitl [Ho] <;> iassumption
  iintro ⟨Ho, HcB⟩; rw [wp_bind]
  iapply (run_shared I c 2) $$ [Hrn Hs2]
  · isplitl [Hrn] <;> iassumption
  iintro ⟨Hrn, Hs2⟩; rw [wp_bind]
  iapply (run_shared I c 3) $$ [Hrn Hs3]
  · isplitl [Hrn] <;> iassumption
  iintro ⟨Hrn, Hs3⟩; rw [wp_bind]
  iapply (run_waits I K c .B 21 (fun j d hd => by
    rcases d with d | k
    · exact absurd hd (by revert d; decide)
    · revert j k; decide)) $$ [Ho HcB]
  · isplitr; · iexact HR
    isplitr; · iexact HL
    isplitl [Ho] <;> iassumption
  iintro ⟨Ho, HcB, -, Hp⟩
  ihave Hp := Entails.of_eq (show (three fun t => recvPay I c (.B t)) = _ from three_sep (fun t => bP c t (bF I c)) (fun t => redE (crsD c t.rev) c)) $$ Hp
  icases Hp with ⟨Hb, HeB⟩
  iapply (run_sumB I c) $$ [Hown Hb]
  · isplitl [Hown] <;> iassumption
  iintro ⟨Hown, Hb⟩
  iapply Hk
  isplitl [Ho]; · iexact Ho
  isplitl [Hin]; · iexact Hin
  isplitl [Hrn]; · iexact Hrn
  isplitl [Hown]; · iexact Hown
  isplitl [Hs0 Hs1 Hs2 Hs3]
  · unfold four
    isplitl [Hs0]; · iexact Hs0
    isplitl [Hs1]; · iexact Hs1
    isplitl [Hs2] <;> iassumption
  isplitl [He0 He1 He2 He3]
  · iapply (Entails.of_eq (own_places c))
    unfold four
    isplitl [He0]; · iexact He0
    isplitl [He1]; · iexact He1
    isplitl [He2] <;> iassumption
  isplitl [HeB]; · iapply (Entails.of_eq (three_rev fun t => redE (crsD c t) c)); iexact HeB
  isplitl [Ha0 Ha1 Ha2 Ha3]
  · iapply (a_join c (aF I c))
    unfold four
    isplitl [Ha0]; · iexact Ha0
    isplitl [Ha1]; · iexact Ha1
    isplitl [Ha2] <;> iassumption
  isplitl [Hb]; · iapply (b_join c (bF I c)); iexact Hb
  isplitl [Hc0 Hc1 Hc2 Hc3]
  · unfold four
    isplitl [Hc0]; · iexact Hc0
    isplitl [Hc1]; · iexact Hc1
    isplitl [Hc2] <;> iassumption
  iexact HcB

end Cert.Moe
-- ==== Proof.Gather.lean ====
/-
# 01_k — the gathers, and the whole body
-/
module

public import proofs.«01_k».proof.Proof.Body

@[expose] public section

noncomputable section

namespace Cert.Moe

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Inp F) (K : Key → ℕ) (c : Dev nD)

/-- One crossing landing, and its chunk sent on inside the group. -/
theorem run_relay (t : Fin 3) (n : ℕ) (hn : n = 27 + 3 * t.val) {Q : PUnit → sProp 𝕄} :
    iprop(records I K ∗ levAts L lv ∗ owesX c n ∗ chan1 c (.C t) ∗ (three fun j => redE (grpD c j) (ct c t.rev.succ)) ∗ (three fun j => chan0 c (.D t.rev.succ j)))
      ⊢ iprop(((owesX c (n + 3) ∗ chan2 c (.C t) ∗ redP c c (shC t) (finF I) ∗ redP c (ct c t.rev.succ) fullShare.right (finF I)
          ∗ (three fun j => chan1 c (.D t.rev.succ j))) -∗ Q ⟨⟩) -∗ run c (relayP c t) Q) := by
  subst hn
  unfold relayP
  iintro ⟨#HR, #HL, Ho, Hc, He, HcD⟩ Hk
  rw [run, wp_bind]
  iapply (run_wait1 I K c (.C t) (27 + 3 * t.val) (fun d hd => by
    rcases d with d | k
    · have h6 : ∀ d : Duty, dord (.inl d) < 6 := by decide
      have := h6 d; omega
    · have h27 : 27 ≤ dord (.inr k) := le_trans (by omega) hd
      clear hd; revert t k; decide)) $$ [Ho Hc]
  · isplitr; · iexact HR
    isplitr; · iexact HL
    isplitl [Ho] <;> iassumption
  iintro ⟨Ho, Hc, Hs, Hr⟩
  ihave Hr := (show recvPay I c (.C t) ⊢ _ from (red_left c (ct c t.rev.succ) (finF I)).1) $$ Hr
  icases Hr with ⟨Hl, Hr⟩
  iapply (run_sends I K c (.D t.rev.succ) (27 + 3 * t.val) (fun j => by
    revert t j; decide)) $$ [Ho Hl He HcD]
  · isplitr; · iexact HR
    isplitl [Hl He]
    · iapply (Entails.of_eq (three_sep (fun j => redP c (ct c t.rev.succ) (shD j) (finF I)) (fun j => redE (grpD c j) (ct c t.rev.succ))).symm)
      isplitl [Hl] <;> iassumption
    isplitl [Ho] <;> iassumption
  iintro ⟨Ho, HcD⟩
  iapply Hk
  isplitl [Ho]; · iexact Ho
  isplitl [Hc]; · iexact Hc
  isplitl [Hs]; · iapply (show sendPay I c (.C t) ⊢ redP c c (shC t) (finF I) from BI.Entails.refl _); iexact Hs
  isplitl [Hr] <;> iassumption

/-- What the group copies land, as the other chunks of the group. -/
theorem landed_chunks (t : Fin 4) (f : Vec F S16x64x1024 .bf16) :
    (three fun j => redP c (ct (grpD c j.rev) t) fullShare f : sProp 𝕄) = three fun j => redP c (ch (gr c t) (pos (grpD c j))) fullShare f := by
  rw [← three_rev]
  exact congrArg three (funext fun j => by rw [ch_pos_grpD, Fin.rev_rev])

/-- One block's landings, and the block of the result. -/
theorem run_finish (t : Fin 4) {Q : PUnit → sProp 𝕄} :
    iprop(records I K ∗ levAts L lv ∗ owesX c 36 ∗ (three fun j => chan1 c (.D t j)) ∗ redP c (ct c t) fullShare.right (finF I)
        ∗ shP c (gr c t) (shF I c) ∗ (∃ f, outPt c (gr c t) f))
      ⊢ iprop(((owesX c 36 ∗ (three fun j => chan2 c (.D t j)) ∗ redQ c (gr c t) (finF I) ∗ shP c (gr c t) (shF I c) ∗ outPt c (gr c t) (outF I c)) -∗ Q ⟨⟩)
        -∗ run c (finishP c t) Q) := by
  unfold finishP
  iintro ⟨#HR, #HL, Ho, Hc, Hr, Hs, Hout⟩ Hk
  rw [run, wp_bind]
  iapply (run_waits I K c (.D t) 36 (fun j d hd => by
    exact absurd hd (by revert d; decide))) $$ [Ho Hc]
  · isplitr; · iexact HR
    isplitr; · iexact HL
    isplitl [Ho] <;> iassumption
  iintro ⟨Ho, Hc, Hl, Hp⟩
  ihave Hown := (red_left c (ct c t) (finF I)).2 $$ [Hl Hr]
  · isplitl [Hl]; · iapply (show (three fun j => sendPay I c (.D t j)) ⊢ (three fun j => redP c (ct c t) (shD j) (finF I)) from BI.Entails.refl _); iexact Hl
    iexact Hr
  ihave Hq := (Entails.of_eq (quad_parts c (gr c t) (finF I)).symm) $$ [Hown Hp]
  · isplitl [Hown]; · rw [← ct_eq_ch]; iexact Hown
    iapply (Entails.of_eq (landed_chunks c t (finF I))); iexact Hp
  iapply (run_out I c t) $$ [Hq Hs Hout]
  · isplitl [Hq]; · iexact Hq
    isplitl [Hs] <;> iassumption
  iintro ⟨Hq, Hs, Hout⟩
  iapply Hk
  isplitl [Ho]; · iexact Ho
  isplitl [Hc]; · iexact Hc
  isplitl [Hq]; · iexact Hq
  isplitl [Hs] <;> iassumption

/-- The gathering: the finished chunk sent across and inside the group, and the result block by block. -/
theorem run_gatherAll {Q : PUnit → sProp 𝕄} :
    iprop(records I K ∗ levAts L lv ∗ owesX c 21 ∗ redP c c fullShare (finF I) ∗ (four fun b => shP c b (shF I c))
        ∗ (four fun t => three fun j => redE (grpD c j) (ct c t)) ∗ (three fun t => redE (crsD c t) c)
        ∗ (∃ f, ((c : Thread nD τ).loc cc0_stg5_0) ↦{fullShare} f)
        ∗ (three fun t => chan0 c (.C t)) ∗ (four fun t => three fun j => chan0 c (.D t j)))
      ⊢ iprop(((owesX c 36 ∗ (((c : Thread nD τ).loc cc0_scratch0) ↦{fullShare} finF I) ∗ (((c : Thread nD τ).loc cc0_scratch3) ↦{fullShare} shF I c)
          ∗ (((c : Thread nD τ).loc cc0_stg5_0) ↦{fullShare} outF I c)
          ∗ (three fun t => chan2 c (.C t)) ∗ (four fun t => three fun j => chan2 c (.D t j))) -∗ Q ⟨⟩) -∗ run c (gatherAll c) Q) := by
  unfold gatherAll
  iintro ⟨#HR, #HL, Ho, Hr, Hs, HeD, HeC, Hout, HcC, HcD⟩ Hk
  ihave Hs := Entails.of_eq ((four_gr c fun b => shP c b (shF I c)).symm.trans (four_eq _)) $$ Hs
  icases Hs with ⟨Hs0, Hs1, Hs2, Hs3⟩
  ihave Hout := (out_split c).trans (Entails.of_eq (four_eq _)) $$ Hout
  icases Hout with ⟨Hout0, Hout1, Hout2, Hout3⟩
  ihave HeD := Entails.of_eq (four_eq _) $$ HeD
  icases HeD with ⟨He0, He1, He2, He3⟩
  ihave HcD := Entails.of_eq (four_eq _) $$ HcD
  icases HcD with ⟨Hd0, Hd1, Hd2, Hd3⟩
  ihave Hr := (red_left c c (finF I)).1 $$ Hr
  icases Hr with ⟨Hl, Hr⟩
  ihave Hr := (red_right c c (finF I)).1 $$ Hr
  rw [run, wp_bind]
  iapply (run_sends I K c (.D 0) 21 (fun j => by revert j; decide)) $$ [Ho Hl He0 Hd0]
  · isplitr; · iexact HR
    isplitl [Hl He0]
    · iapply (Entails.of_eq (three_sep (fun j => redP c (ct c 0) (shD j) (finF I)) (fun j => redE (grpD c j) (ct c 0))).symm)
      isplitl [Hl]; · rw [ct_zero]; iexact Hl
      iexact He0
    isplitl [Ho] <;> iassumption
  iintro ⟨Ho, Hd0⟩; rw [wp_bind]
  iapply (run_sends I K c .C 24 (fun j => by revert j; decide)) $$ [Ho Hr HeC HcC]
  · isplitr; · iexact HR
    isplitl [Hr HeC]
    · iapply (Entails.of_eq (three_sep (fun t => redP c c (shC t) (finF I)) (fun t => redE (crsD c t) c)).symm)
      isplitl [Hr] <;> iassumption
    isplitl [Ho] <;> iassumption
  iintro ⟨Ho, HcC⟩
  ihave HcC := Entails.of_eq (three_eq _) $$ HcC
  icases HcC with ⟨Hc0, Hc1, Hc2⟩
  rw [wp_bind]
  iapply (run_relay I K c 0 27 rfl) $$ [Ho Hc0 He3 Hd3]
  · isplitr; · iexact HR
    isplitr; · iexact HL
    isplitl [Ho]; · iexact Ho
    isplitl [Hc0]; · iexact Hc0
    isplitl [He3]; · iexact He3
    iexact Hd3
  iintro ⟨Ho, Hc0, Hq0, Hr3, Hd3⟩; rw [wp_bind]
  iapply (run_relay I K c 1 30 rfl) $$ [Ho Hc1 He2 Hd2]
  · isplitr; · iexact HR
    isplitr; · iexact HL
    isplitl [Ho]; · iexact Ho
    isplitl [Hc1]; · iexact Hc1
    isplitl [He2]; · iexact He2
    iexact Hd2
  iintro ⟨Ho, Hc1, Hq1, Hr2, Hd2⟩; rw [wp_bind]
  iapply (run_relay I K c 2 33 rfl) $$ [Ho Hc2 He1 Hd1]
  · isplitr; · iexact HR
    isplitr; · iexact HL
    isplitl [Ho]; · iexact Ho
    isplitl [Hc2]; · iexact Hc2
    isplitl [He1]; · iexact He1
    iexact Hd1
  iintro ⟨Ho, Hc2, Hq2, Hr1, Hd1⟩; rw [wp_bind]
  ihave Hr0 := (red_right c c (finF I)).2 $$ [Hq0 Hq1 Hq2]
  · unfold three
    isplitl [Hq0]; · iexact Hq0
    isplitl [Hq1] <;> iassumption
  iapply (run_finish I K c 0) $$ [Ho Hd0 Hr0 Hs0 Hout0]
  · isplitr; · iexact HR
    isplitr; · iexact HL
    isplitl [Ho]; · iexact Ho
    isplitl [Hd0]; · iexact Hd0
    isplitl [Hr0]; · rw [ct_zero]; iexact Hr0
    isplitl [Hs0] <;> iassumption
  iintro ⟨Ho, Hd0, Hr0, Hs0, Hout0⟩; rw [wp_bind]
  iapply (run_finish I K c 1) $$ [Ho Hd1 Hr1 Hs1 Hout1]
  · isplitr; · iexact HR
    isplitr; · iexact HL
    isplitl [Ho]; · iexact Ho
    isplitl [Hd1]; · iexact Hd1
    isplitl [Hr1]; · iexact Hr1
    isplitl [Hs1] <;> iassumption
  iintro ⟨Ho, Hd1, Hr1, Hs1, Hout1⟩; rw [wp_bind]
  iapply (run_finish I K c 2) $$ [Ho Hd2 Hr2 Hs2 Hout2]
  · isplitr; · iexact HR
    isplitr; · iexact HL
    isplitl [Ho]; · iexact Ho
    isplitl [Hd2]; · iexact Hd2
    isplitl [Hr2]; · iexact Hr2
    isplitl [Hs2] <;> iassumption
  iintro ⟨Ho, Hd2, Hr2, Hs2, Hout2⟩
  iapply (run_finish I K c 3) $$ [Ho Hd3 Hr3 Hs3 Hout3]
  · isplitr; · iexact HR
    isplitr; · iexact HL
    isplitl [Ho]; · iexact Ho
    isplitl [Hd3]; · iexact Hd3
    isplitl [Hr3]; · iexact Hr3
    isplitl [Hs3] <;> iassumption
  iintro ⟨Ho, Hd3, Hr3, Hs3, Hout3⟩
  iapply Hk
  isplitl [Ho]; · iexact Ho
  isplitl [Hr0 Hr1 Hr2 Hr3]
  · iapply (red_join c (finF I)); unfold four
    isplitl [Hr0]; · iexact Hr0
    isplitl [Hr1]; · iexact Hr1
    isplitl [Hr2] <;> iassumption
  isplitl [Hs0 Hs1 Hs2 Hs3]
  · iapply (sh_join c (shF I c)); unfold four
    isplitl [Hs0]; · iexact Hs0
    isplitl [Hs1]; · iexact Hs1
    isplitl [Hs2] <;> iassumption
  isplitl [Hout0 Hout1 Hout2 Hout3]
  · iapply (out_join c (outF I c)); unfold four
    isplitl [Hout0]; · iexact Hout0
    isplitl [Hout1]; · iexact Hout1
    isplitl [Hout2] <;> iassumption
  isplitl [Hc0 Hc1 Hc2]
  · unfold three
    isplitl [Hc0]; · iexact Hc0
    isplitl [Hc1] <;> iassumption
  unfold four
  isplitl [Hd0]; · iexact Hd0
  isplitl [Hd1]; · iexact Hd1
  isplitl [Hd2] <;> iassumption

/-! ## The whole body -/

/-- A device's protocol state at the start: its handshake, and every transfer's. -/
def proto0 : sProp 𝕄 :=
  iprop(atPos ER (barCell c) 0 ∅ 0 ∗ cred (tallyAt (barCell c) () 6) ∗ (bigSep Finset.univ fun d => dutyTok ER (barCell (btgt c d)) 0 d)
    ∗ bigSep Finset.univ fun k => chan0 c k)
/-- The scratch buffers, whatever they hold. -/
def scratchE : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ (∃ f, ((c : Thread nD τ).loc cc0_scratch3) ↦{fullShare} f)
    ∗ (∃ f, ((c : Thread nD τ).loc cc0_scratch4) ↦{fullShare} f) ∗ (∃ f, ((c : Thread nD τ).loc cc0_scratch5) ↦{fullShare} f)
    ∗ (∃ f, ((c : Thread nD τ).loc cc0_scratch6) ↦{fullShare} f))

/-- Things one per duty, one per transfer. -/
theorem bigSep_duty (Φ : Duty → sProp 𝕄) :
    bigSep Finset.univ Φ = iprop((three fun j => Φ (false, j)) ∗ (three fun t => Φ (true, t))) := by
  rw [bigSep_univ_prod, bigSep_univ_eq_bigSepL [false, true] (by decide) (by decide)]
  exact congrArg₂ (fun a b => iprop(a ∗ b)) (bigSep_three _) (bigSep_three _)
/-- Things one per transfer, phase by phase. -/
theorem bigSep_ch (Φ : Ch → sProp 𝕄) :
    bigSep Finset.univ Φ = iprop((four fun b => three fun j => Φ (.A b j)) ∗ (three fun t => Φ (.B t)) ∗ (three fun t => Φ (.C t)) ∗ (four fun t => three fun j => Φ (.D t j))) := by
  rw [bigSep_univ_equiv chEquiv, bigSep_univ_sum, bigSep_univ_sum, bigSep_univ_sum, bigSep_univ_prod, bigSep_univ_prod, bigSep_four, bigSep_three, bigSep_three, bigSep_four]
  exact congrArg₂ (fun a b => iprop(a ∗ b)) (congrArg four (funext fun b => bigSep_three _))
    (congrArg₂ (fun a b => iprop(a ∗ b)) rfl (congrArg₂ (fun a b => iprop(a ∗ b)) rfl (congrArg four (funext fun t => bigSep_three _))))

/-- The whole body: from the inputs and the start of the protocol to the result, with every semaphore back at zero. -/
theorem run_body {Q : PUnit → sProp 𝕄} :
    iprop(records I K ∗ levAts L lv ∗ owesX c 0 ∗ proto0 c ∗ insP I c ∗ scratchE c ∗ (∃ f, ((c : Thread nD τ).loc cc0_stg5_0) ↦{fullShare} f))
      ⊢ iprop(((owesX c 36 ∗ semVal (barCell c) 0 ∗ (bigSep Finset.univ fun k => chan2 c k) ∗ insP I c ∗ scratchE c
          ∗ (((c : Thread nD τ).loc cc0_stg5_0) ↦{fullShare} outF I c)) -∗ Q ⟨⟩) -∗ run c body Q) := by
  unfold proto0 scratchE
  rw [bigSep_duty, bigSep_ch, bigSep_ch]
  iintro ⟨#HR, #HL, Ho, ⟨Hat, Hcr, ⟨Htg, Htc⟩, ⟨HcA, HcB, HcC, HcD⟩⟩, Hin, ⟨Hr, Ha, Hb, Hs, H4, H5, H6⟩, Hout⟩ Hk
  ihave Hr := red_split c $$ Hr
  ihave Hs := sh_split c $$ Hs
  unfold body
  rw [run, wp_bind]
  simp only [Prog.lift, wp_deviceId, wp_ret]
  imodintro
  rw [wp_bind]
  iapply (run_entry I K c) $$ [Ho Hat Hcr Htg Htc Hin H4 H5 H6 Ha Hb]
  · isplitr; · iexact HR
    isplitr; · iexact HL
    isplitl [Ho]; · iexact Ho
    isplitl [Hat]; · iexact Hat
    isplitl [Hcr]; · iexact Hcr
    isplitl [Htg]; · iexact Htg
    isplitl [Htc]; · iexact Htc
    isplitl [Hin]; · iexact Hin
    isplitl [H4 H5 H6]
    · unfold rndE
      isplitl [H4]; · iexact H4
      isplitl [H5] <;> iassumption
    isplitl [Ha] <;> iassumption
  iintro ⟨Ho, Hz, Hin, Hrn, Ha, Hb⟩; rw [wp_bind]
  iapply (run_reduceAll I K c) $$ [Ho Hin Hrn Hr Hs Ha Hb HcA HcB]
  · isplitr; · iexact HR
    isplitr; · iexact HL
    isplitl [Ho]; · iexact Ho
    isplitl [Hin]; · iexact Hin
    isplitl [Hrn]; · iexact Hrn
    isplitl [Hr]; · iexact Hr
    isplitl [Hs]; · iexact Hs
    isplitl [Ha]; · iexact Ha
    isplitl [Hb]; · iexact Hb
    isplitl [HcA] <;> iassumption
  iintro ⟨Ho, Hin, Hrn, Hr, Hs, HeD, HeC, Ha, Hb, HcA, HcB⟩
  iapply (run_gatherAll I K c) $$ [Ho Hr Hs HeD HeC Hout HcC HcD]
  · isplitr; · iexact HR
    isplitr; · iexact HL
    isplitl [Ho]; · iexact Ho
    isplitl [Hr]; · iexact Hr
    isplitl [Hs]; · iexact Hs
    isplitl [HeD]; · iexact HeD
    isplitl [HeC]; · iexact HeC
    isplitl [Hout]; · iexact Hout
    isplitl [HcC] <;> iassumption
  iintro ⟨Ho, Hr, Hs, Hout, HcC, HcD⟩
  iapply Hk
  isplitl [Ho]; · iexact Ho
  isplitl [Hz]; · iexact Hz
  isplitl [HcA HcB HcC HcD]
  · isplitl [HcA]; · iexact HcA
    isplitl [HcB]; · iexact HcB
    isplitl [HcC] <;> iassumption
  isplitl [Hin]; · iexact Hin
  isplitr [Hout]
  · unfold rndP
    icases Hrn with ⟨H4, H5, H6⟩
    isplitl [Hr]; · iexists _; iexact Hr
    isplitl [Ha]; · iexists _; iexact Ha
    isplitl [Hb]; · iexists _; iexact Hb
    isplitl [Hs]; · iexists _; iexact Hs
    isplitl [H4]; · iexists _; iexact H4
    isplitl [H5]; · iexists _; iexact H5
    iexists _; iexact H6
  iexact Hout

end Cert.Moe
-- ==== Proof.Deal.lean ====
/-
# 01_k — dealing out the protocol's state

What the launch mints for the protocol's cells, and how it is dealt: every device gets the positions and the landing
credit of its own cells and the tokens of the duties it pays, and all share the cells' invariants.
-/
module

public import proofs.«01_k».proof.Proof.Gather

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Inp F)

/-! ## Cells and tokens -/

/-- Different keys name different cells. -/
theorem kcell_inj : Function.Injective (kcell : Key → GSem nD τ sig) := by
  rintro ⟨c, k⟩ ⟨c', k'⟩ h
  have h1 : c = c' := congrArg (fun g : GSem nD τ sig => g.1.1) h
  have h2 : csem k = csem k' := congrArg Prod.snd h
  rw [h1, csem_inj h2]
/-- All the cells of the protocol. -/
def cells : Finset (GSem nD τ sig) := Finset.univ.map ⟨kcell, kcell_inj⟩

/-- A cell's tokens as minted: the barrier's, one per duty; a transfer's, one per semaphore. -/
abbrev Tok : Type := Duty ⊕ (Bool × Ch)
/-- The cell of a token on its device. -/
def tokKey : Tok → Option (Bool × Ch)
  | .inl _ => none
  | .inr k => some k
/-- The duty of a token. -/
def tokDuty : Tok → Duty
  | .inl d => d
  | .inr _ => d0
/-- A token is known by its cell and its duty. -/
theorem tok_ext : ∀ a b : Tok, tokKey a = tokKey b → tokDuty a = tokDuty b → a = b
  | .inl _, .inl _, _, h => congrArg _ h
  | .inl _, .inr _, h, _ => nomatch h
  | .inr _, .inl _, h, _ => nomatch h
  | .inr _, .inr _, h, _ => congrArg _ (Option.some.inj h)
/-- A token as the protocol names it: cell, round and duty. -/
def tokAt (x : Dev nD × Tok) : GSem nD τ sig × ℕ × Duty := (kcell (x.1, tokKey x.2), 0, tokDuty x.2)
/-- Different tokens have different names. -/
theorem tokAt_inj : Function.Injective tokAt := by
  rintro ⟨c, a⟩ ⟨c', a'⟩ h
  have h1 := kcell_inj (congrArg Prod.fst h)
  have h2 : tokDuty a = tokDuty a' := congrArg (fun x => x.2.2) h
  obtain ⟨rfl, hk⟩ := Prod.mk.inj h1
  rw [tok_ext a a' hk h2]
/-- All the tokens of the protocol. -/
def toks : Finset (GSem nD τ sig × ℕ × Duty) := Finset.univ.map ⟨tokAt, tokAt_inj⟩

/-- The ghost state at launch: the staging pipeline's, and the protocol's. -/
def u₀ : UU := (initOf (Pipeline.cells cfgs cellOf_inj) (Pipeline.launchToks cfgs cellOf_inj), initOf cells toks)

/-- What the launch mints for device `c`'s cells: their rounds, its positions, the marks, the tokens. -/
def posAll (c : Dev nD) : sProp 𝕄 := bigSep Finset.univ fun k => atPos ER (kcell (c, k)) 0 ∅ 0
/-- The marks that each of device `c`'s cells is at its first round. -/
def marks (c : Dev nD) : sProp 𝕄 := bigSep Finset.univ fun k => reached ER (kcell (c, k)) 0
/-- The tokens of the duties on device `c`'s cells. -/
def minted (c : Dev nD) : sProp 𝕄 := bigSep Finset.univ fun t => dutyTok ER (kcell (c, tokKey t)) 0 (tokDuty t)
/-- All that the launch mints for device `c`'s cells. -/
def G (c : Dev nD) : sProp 𝕄 :=
  iprop((bigSep Finset.univ fun k => roundState ER (rd I) (kcell (c, k)) 0) ∗ posAll c ∗ marks c ∗ minted c)

/-- The protocol's ghost state at launch is every device's share of it. -/
theorem fund : BI.own (ER (initOf cells toks)) ⊢ (|==> bigSep Finset.univ (G I) : sProp 𝕄) := by
  have hX (Φ : GSem nD τ sig → sProp 𝕄) : bigSep cells Φ = bigSep Finset.univ fun c : Dev nD => bigSep Finset.univ fun k => Φ (kcell (c, k)) := by
    unfold cells; rw [bigSep_map, bigSep_univ_prod]; rfl
  have hT : bigSep toks (fun x => (dutyTok ER x.1 x.2.1 x.2.2 : sProp 𝕄)) = bigSep Finset.univ fun c : Dev nD => minted c := by
    unfold toks; rw [bigSep_map, bigSep_univ_prod]; rfl
  iintro HX
  imod (Rounds.fund ER (rd I) cells toks) $$ HX with ⟨Hst, Hr, Hat, Htok⟩
  imodintro
  ihave Hst := (Entails.of_eq (hX fun g => roundState ER (rd I) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G posAll marks; simp only [bigSep_sep']
  isplitl [Hst]; · iexact Hst
  isplitl [Hat]; · iexact Hat
  isplitl [Hr] <;> iassumption

/-! ## The semaphores at zero -/

/-- A cell family by its key: the barrier's, and each transfer's. -/
theorem bigSep_key (Φ : Option (Bool × Ch) → sProp 𝕄) :
    bigSep Finset.univ Φ = iprop(Φ none ∗ bigSep Finset.univ fun k => Φ (some k)) := by
  rw [bigSep_univ_equiv ((Equiv.sumComm PUnit.{1} (Bool × Ch)).trans (Equiv.optionEquivSumPUnit (Bool × Ch)).symm), bigSep_univ_sum]
  refine congrArg₂ (fun a b => iprop(a ∗ b)) ?_ rfl
  exact bigSep_univ_eq_bigSepL [(PUnit.unit : PUnit.{1})] (by decide) (by decide) _
/-- Send and landing cells together, per transfer. -/
theorem bigSep_pair (Φ : Bool × Ch → sProp 𝕄) :
    bigSep Finset.univ Φ = iprop((bigSep Finset.univ fun k => Φ (false, k)) ∗ bigSep Finset.univ fun k => Φ (true, k)) := by
  rw [bigSep_univ_prod, bigSep_univ_eq_bigSepL [false, true] (by decide) (by decide)]; rfl

/-- The one semaphore that outlives the kernel is the barrier's. -/
theorem unscoped_eq (c : Dev nD) : (unscopedSems0 c : sProp 𝕄) = semVal (barCell c) 0 := by
  unfold unscopedSems0; rw [bigSep_eq_bigSepL_of_eq [SemLoc.reg barS] (by decide +kernel) (by decide)]; rfl
/-- The kernel's own semaphores at zero are the transfers', two by two. -/
theorem own_eq (c : Dev nD) : (Pipeline.ownSems0 (Ix := Unit) (Name := ℕ) (U := UU) (Lvl := ℕ) (Val := Elt F) (τ := τ) osem c : sProp 𝕄)
    = bigSep Finset.univ fun k => chan2 c k := by
  unfold Pipeline.ownSems0 chan2; rw [bigSep_pair, bigSep_sep']; rfl
/-- All the semaphores at zero are the cells' values. -/
theorem sems_eq (c : Dev nD) :
    iprop(Pipeline.ownSems0 (Ix := Unit) (Name := ℕ) (U := UU) (Lvl := ℕ) (Val := Elt F) (τ := τ) osem c ∗ unscopedSems0 c)
      ⊢ (bigSep Finset.univ fun k => semVal (kcell (c, k)) 0 : sProp 𝕄) := by
  rw [bigSep_key, unscoped_eq]
  unfold Pipeline.ownSems0
  iintro ⟨H, HB⟩
  isplitl [HB]; · iexact HB
  iexact H

/-- Device `c`'s cells get their invariants. -/
theorem alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k => iprop(∃ κ : ℕ, cellInv ER (rd I) κ (kcell (c, k)))) ∗ posAll c ∗ marks c ∗ minted c) := by
  unfold G
  iintro ⟨Ho, Hu, Hst, Hrest⟩
  ihave Hv := (sems_eq (F := F) c) $$ [Ho Hu]
  · isplitl [Ho] <;> iassumption
  imod (show iprop((bigSep Finset.univ fun k => semVal (kcell (c, k)) 0) ∗ bigSep Finset.univ fun k => roundState ER (rd I) (kcell (c, k)) 0)
      ⊢ (|={Set.univ}=> bigSep Finset.univ fun k => iprop(∃ κ : ℕ, cellInv ER (rd I) κ (kcell (c, k))) : sProp 𝕄) from by
        rw [← bigSep_sep']
        exact (bigSep_mono fun k _ => (Rounds.body_intro ER (rd I) (kcell (c, k))).trans inv_alloc).trans (bigSep_fupd _ _)) $$ [Hv Hst] with Hinv
  · isplitl [Hv] <;> iassumption
  imodintro
  isplitl [Hinv] <;> iassumption

/-! ## Dealing the tokens -/

/-- Things by device and index may be listed by index and device. -/
theorem bigSep_swap {J : Type} [Fintype J] (Φ : Dev nD → J → sProp 𝕄) :
    (bigSep Finset.univ fun c => bigSep Finset.univ fun j => Φ c j) = bigSep Finset.univ fun j => bigSep Finset.univ fun c => Φ c j := by
  rw [← bigSep_univ_prod (fun x : Dev nD × J => Φ x.1 x.2), bigSep_univ_equiv (Equiv.prodComm J (Dev nD)), bigSep_univ_prod]; rfl
/-- Tokens dealt around the mesh: what each device holds of its own, each device holds of its target's. -/
theorem around {J : Type} [Fintype J] [DecidableEq J] (t s : Dev nD → J → Dev nD) (hts : ∀ c j, s (t c j) j = c) (hst : ∀ c j, t (s c j) j = c)
    (Φ : Dev nD → J → sProp 𝕄) :
    (bigSep Finset.univ fun c => bigSep Finset.univ fun j => Φ c j) = bigSep Finset.univ fun c => bigSep Finset.univ fun j => Φ (t c j) j := by
  rw [bigSep_swap, bigSep_swap fun c j => Φ (t c j) j]
  exact bigSep_congr fun j _ => bigSep_univ_equiv ⟨fun c => t c j, fun c => s c j, fun c => hts c j, fun c => hst c j⟩ _

/-- The tokens of the duties device `c` pays. -/
def payToks (c : Dev nD) : sProp 𝕄 :=
  iprop((bigSep Finset.univ fun d => dutyTok ER (barCell (btgt c d)) 0 d) ∗ (bigSep Finset.univ fun k => dutyTok ER (sndCell c k) 0 d0)
    ∗ bigSep Finset.univ fun k => dutyTok ER (rcvCell (tgt c k) k) 0 d0)

/-- The tokens minted cell by cell are, over all devices, the tokens of the duties each device pays. -/
theorem toks_around : (bigSep Finset.univ fun c : Dev nD => (minted c : sProp 𝕄)) = bigSep Finset.univ fun c : Dev nD => payToks c := by
  have h (c : Dev nD) : (minted c : sProp 𝕄) = iprop((bigSep Finset.univ fun d => dutyTok ER (barCell c) 0 d)
      ∗ (bigSep Finset.univ fun k => dutyTok ER (sndCell c k) 0 d0) ∗ bigSep Finset.univ fun k => dutyTok ER (rcvCell c k) 0 d0) := by
    unfold minted; rw [bigSep_univ_sum, bigSep_pair]; rfl
  rw [bigSep_congr fun c _ => h c]
  unfold payToks
  rw [bigSep_sep', bigSep_sep', bigSep_sep', bigSep_sep',
    around btgt bfrm bfrm_btgt btgt_bfrm (fun c d => dutyTok ER (barCell c) 0 d),
    around tgt frm frm_tgt tgt_frm (fun c k => dutyTok ER (rcvCell c k) 0 d0)]

/-- What device `c` starts from, but for the landing credit. -/
def G' (c : Dev nD) : sProp 𝕄 := iprop(∃ K : Key → ℕ, records I K ∗ posAll c ∗ payToks c)

/-- The cells' invariants and marks become records shared by all, and each device gets its positions and the tokens it pays with. -/
theorem regroup :
    (bigSep Finset.univ fun c : Dev nD => iprop((bigSep Finset.univ fun k => iprop(∃ κ : ℕ, cellInv ER (rd I) κ (kcell (c, k)))) ∗ posAll c ∗ marks c ∗ minted c) : sProp 𝕄)
      ⊢ bigSep Finset.univ (G' I) := by
  rw [bigSep_sep', bigSep_sep', bigSep_sep', ← bigSep_univ_prod (fun k : Key => iprop(∃ κ : ℕ, cellInv ER (rd I) κ (kcell k))), toks_around]
  iintro ⟨HI, Hat, Hr, Htok⟩
  ihave Hr := (Entails.of_eq (show bigSep Finset.univ (fun c : Dev nD => (marks c : sProp 𝕄)) = bigSep Finset.univ fun k : Key => reached ER (kcell k) 0 from by
    unfold marks; rw [← bigSep_univ_prod (fun k : Key => (reached ER (kcell k) 0 : sProp 𝕄))])) $$ Hr
  icases Hr with #HR
  ihave HK := (BI.bigSep_exists_pi Finset.univ (fun (k : Key) (κ : ℕ) => (cellInv ER (rd I) κ (kcell k) : sProp 𝕄))) $$ HI
  icases HK with ⟨%K, #HI⟩
  iapply (bigSep_with_persistent (R := records I K) (Φ := fun c => iprop(posAll c ∗ payToks c)) fun c _ => by
    unfold G'; iintro ⟨H1, H2⟩; iexists K; isplitl [H1] <;> iassumption)
  isplitr
  · unfold records; isplitr; · iexact HI
    iexact HR
  rw [bigSep_sep']
  isplitl [Hat] <;> iassumption

/-- From the semaphores at zero and the minted state, every device gets what it starts from. -/
theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => alloc I c).trans (bigSep_fupd _ _)).trans (BI.fupd_mono (regroup I))

/-! ## The landing credit -/

/-- Which cell a due is paid to on its target, and who owes it there. -/
def dueKey : Due → Option (Bool × Ch)
  | .inl _ => none
  | .inr k => some (true, k)
/-- How much a due pays. -/
def dueAmt : Due → ℕ
  | .inl _ => 1
  | .inr _ => N
/-- The device a due is paid to. -/
def dtgt (c : Dev nD) : Due → Dev nD
  | .inl d => btgt c d
  | .inr k => tgt c k
/-- The device that owes a due to device `c`. -/
def dfrm (c : Dev nD) : Due → Dev nD
  | .inl d => bfrm c d
  | .inr k => frm c k
/-- A device is paid a due by exactly the one that owes it there. -/
theorem dtgt_iff (c d : Dev nD) (x : Due) : c = dtgt d x ↔ d = dfrm c x := by
  cases x with
  | inl x => exact ⟨fun h => by rw [h]; exact (bfrm_btgt d x).symm, fun h => by rw [h]; exact (btgt_bfrm c x).symm⟩
  | inr x => exact ⟨fun h => by rw [h]; exact (frm_tgt d x).symm, fun h => by rw [h]; exact (tgt_frm c x).symm⟩
/-- A due adds to a cell only when it is that cell's, and only from the device that owes it. -/
theorem dtally_at (d c : Dev nD) (k : Option (Bool × Ch)) (x : Due) :
    dtally d x (kcell (c, k)) () = if k = dueKey x then (if d = dfrm c x then dueAmt x else 0) else 0 := by
  have h : dtally d x = tallyAt (kcell (dtgt d x, dueKey x)) () (dueAmt x) := by cases x <;> rfl
  rw [h, tallyAt_apply]
  by_cases hk : k = dueKey x
  · rw [if_pos hk]
    by_cases hd : d = dfrm c x
    · rw [if_pos hd, if_pos ⟨by rw [hk, (dtgt_iff c d x).mpr hd], rfl⟩]
    · rw [if_neg hd, if_neg fun h => hd ((dtgt_iff c d x).mp (congrArg Prod.fst (kcell_inj h.1)))]
  · rw [if_neg hk, if_neg fun h => hk (congrArg Prod.snd (kcell_inj h.1))]
/-- What all devices owe to a cell at the start. -/
theorem owed_total (c : Dev nD) (k : Option (Bool × Ch)) :
    ∑ d : Dev nD, owed d 0 (kcell (c, k)) () = ∑ x : Due, if k = dueKey x then dueAmt x else 0 := by
  have h (d : Dev nD) : owed d 0 (kcell (c, k)) () = ∑ x : Due, dtally d x (kcell (c, k)) () := by
    unfold owed
    rw [Finset.filter_true_of_mem fun x _ => Nat.zero_le _, Finset.sum_apply, Finsupp.finset_sum_apply]
  rw [Finset.sum_congr rfl fun d _ => h d, Finset.sum_comm]
  refine Finset.sum_congr rfl fun x _ => ?_
  rw [Finset.sum_congr rfl fun d _ => dtally_at d c k x]
  by_cases hk : k = dueKey x
  · simp only [if_pos hk]; rw [Finset.sum_ite_eq' Finset.univ (dfrm c x), if_pos (Finset.mem_univ _)]
  · simp only [if_neg hk]; exact Finset.sum_const_zero
/-- Six signals are owed to a barrier cell. -/
theorem total_bar : (∑ x : Due, if none = dueKey x then dueAmt x else 0) = 6 := by
  rw [Fintype.sum_sum_type]
  rfl
/-- One transfer's credit is owed to a landing cell. -/
theorem total_rcv (k : Ch) : (∑ x : Due, if some (true, k) = dueKey x then dueAmt x else 0) = N := by
  rw [Fintype.sum_sum_type, Finset.sum_eq_zero fun d _ => if_neg (by intro h; cases h), Nat.zero_add, Finset.sum_eq_single k]
  · exact if_pos rfl
  · intro j _ hj; exact if_neg fun h => hj (by cases h; rfl)
  · intro h; exact absurd (Finset.mem_univ k) h

/-- The launch credit of a cell is what all devices owe to it. -/
theorem launch_at (c : Dev nD) (k : Option (Bool × Ch)) (n : ℕ) (h : (∑ x : Due, if k = dueKey x then dueAmt x else 0) = n) :
    tallyOn (kcell (c, k)) (launchCredit (Pipeline.owing fun c => owed c 0) 0 (kcell (c, k))) = (tallyAt (kcell (c, k)) () n : CellTallies nD τ sig Unit) := by
  unfold tallyAt; refine congrArg _ (Finsupp.ext fun u => ?_); cases u
  rw [Pipeline.launchCredit_owing, Finsupp.single_eq_same, owed_total, h]

/-- The semaphores that others pay: the barrier's and the landings'. -/
def rcvKey (o : Option Ch) : SemLoc sig := csem (o.map fun k => (true, k))
/-- Different landings have different semaphores, none of them the barrier's. -/
theorem rcvKey_inj : Function.Injective rcvKey := by
  intro a b h
  have := csem_inj h
  cases a <;> cases b <;> simp_all
/-- The launch gives each device the credit for its six signals and for every landing. -/
theorem creds (c : Dev nD) :
    (Pipeline.launchCred (fun c => owed c 0) c : sProp 𝕄)
      ⊢ iprop(cred (tallyAt (barCell c) () 6) ∗ bigSep Finset.univ fun k => cred (tallyAt (rcvCell c k) () N)) := by
  unfold Pipeline.launchCred
  refine (bigSep_subset (Finset.subset_univ (Finset.univ.map ⟨rcvKey, rcvKey_inj⟩))).trans ?_
  rw [bigSep_map, bigSep_univ_equiv ((Equiv.sumComm PUnit.{1} Ch).trans (Equiv.optionEquivSumPUnit Ch).symm), bigSep_univ_sum]
  refine Entails.of_eq (congrArg₂ (fun a b => iprop(a ∗ b)) ?_ (bigSep_congr fun k _ => ?_))
  · refine (bigSep_univ_eq_bigSepL [(PUnit.unit : PUnit.{1})] (by decide) (by decide) _).trans ?_
    exact congrArg cred (launch_at c none 6 total_bar)
  · exact congrArg cred (launch_at c (some (true, k)) N (total_rcv k))

/-- Positions, tokens and credit are a device's protocol state. -/
theorem proto_intro (c : Dev nD) :
    iprop(posAll c ∗ payToks c ∗ Pipeline.launchCred (fun c => owed c 0) c) ⊢ (proto0 c : sProp 𝕄) := by
  unfold posAll payToks proto0 chan0
  rw [bigSep_key, bigSep_pair, bigSep_sep', bigSep_sep', bigSep_sep', bigSep_sep']
  iintro ⟨⟨Hb, Hs, Hr⟩, ⟨Htb, Hts, Htr⟩, Hcr⟩
  ihave Hc := (creds (F := F) c) $$ Hcr
  icases Hc with ⟨H6, HN⟩
  isplitl [Hb]; · iexact Hb
  isplitl [H6]; · iexact H6
  isplitl [Htb]; · iexact Htb
  isplitl [Hts]; · iexact Hts
  isplitl [Htr]; · iexact Htr
  isplitl [Hs]; · iexact Hs
  isplitl [Hr] <;> iassumption

end Cert.Moe
-- ==== Proof.Launch.lean ====
/-
# 01_k — the launch

All sixteen devices' runs put together: from any memory with zero counters the kernel terminates, its result array
holds `outF`, its arguments are unchanged and every semaphore is at zero.
-/
module

public import proofs.«01_k».proof.Proof.Deal
public import proofs.«01_k».proof.Proof.Gen.KernelIdeal.Points
public import Idealize.ShloMosaic.Lib.Pipeline.CollectiveSegs

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- What device `c`'s body finds staged of the five arguments. -/
def inp (c : Dev nD) : Inp F where
  x := (win0_0.blk (0 : Fin 1)).view.read (Elt F) (m ((c : Thread nD τ).loc main_arg0))
  rw := (win0_1.blk (0 : Fin 1)).view.read (Elt F) (m ((c : Thread nD τ).loc main_arg1))
  ix := (win0_2.blk (0 : Fin 1)).view.read (Elt F) (m ((c : Thread nD τ).loc main_arg2))
  ew := (win0_3.blk (0 : Fin 1)).view.read (Elt F) (m ((c : Thread nD τ).loc main_arg3))
  sw := (win0_4.blk (0 : Fin 1)).view.read (Elt F) (m ((c : Thread nD τ).loc main_arg4))

/-! ## The pipeline's proof data -/

/-- What device `c`'s body starts from, and what it leaves. -/
def start (c : Dev nD) : sProp 𝕄 := iprop((∃ K, records (inp m) K) ∗ levAts L lv ∗ proto0 c)
/-- What the body starts from, with its scratch buffers. -/
def Φ₀ (c : Dev nD) : sProp 𝕄 := iprop(start m c ∗ scratchE c)
/-- What the body leaves, apart from the staged arrays. -/
def Φ₁ (c : Dev nD) : sProp 𝕄 := iprop(semVal (barCell c) 0 ∗ (bigSep Finset.univ fun k => chan2 c k) ∗ scratchE c)

/-- What the staging of the arrays needs to know: their contents before and after, what the body holds, and what it owes. -/
def dats (_ : Fin 1) (c : Dev nD) : Dat τ (Elt F) Unit ℕ UU ℕ cfg0 c where
  A w := m ((cfg0.win w).arr.view.loc (c : Thread nD τ))
  after w _ := match w with
    | ⟨0, _⟩ => (inp m c).x
    | ⟨1, _⟩ => (inp m c).rw
    | ⟨2, _⟩ => (inp m c).ix
    | ⟨3, _⟩ => (inp m c).ew
    | ⟨4, _⟩ => (inp m c).sw
    | ⟨5, _⟩ => outF (inp m) c
  Φ t := match t with
    | ⟨0, _⟩ => Φ₀ m c
    | ⟨_ + 1, _⟩ => Φ₁ c
  q _ := fullShare
  owed t := match t with
    | ⟨0, _⟩ => owed c 0
    | ⟨_ + 1, _⟩ => 0

/-- Things one per window, listed. -/
theorem bigSep_win (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

/-- A whole buffer owned at given contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))
/-- A whole buffer owned through its view. -/
theorem owns_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]
/-- A buffer owned at given contents is owned at equal contents. -/
theorem stg_elim (c : Dev nD) (b : Ref sig .tc) (X Y : b.ty.Contents (Elt F)) (h : X = Y) :
    stg c b X ⊢ (((c : Thread nD τ).loc b) ↦{fullShare} Y : sProp 𝕄) := by
  subst h; iintro ⟨%f, %hf, H⟩; rw [← hf]; iexact H
/-- A buffer held is owned at its contents. -/
theorem stg_intro (c : Dev nD) (b : Ref sig .tc) (X : b.ty.Contents (Elt F)) :
    (((c : Thread nD τ).loc b) ↦{fullShare} X : sProp 𝕄) ⊢ stg c b X := by
  iintro H; iexists X; isplitr; · (ipureintro; rfl)
  iexact H

/-- The five inputs are fetched before the body runs. -/
theorem before_0 (c : Dev nD) (d) : (dats m 0 c).before (0 : Fin 6) t0_0 d = (inp m c).x := by unfold Dat.before; rw [if_pos (fetch0_0 t0_0)]; rfl
/-- The router is fetched before the body runs. -/
theorem before_1 (c : Dev nD) (d) : (dats m 0 c).before (1 : Fin 6) t0_0 d = (inp m c).rw := by unfold Dat.before; rw [if_pos (fetch0_1 t0_0)]; rfl
/-- The expert choices are fetched before the body runs. -/
theorem before_2 (c : Dev nD) (d) : (dats m 0 c).before (2 : Fin 6) t0_0 d = (inp m c).ix := by unfold Dat.before; rw [if_pos (fetch0_2 t0_0)]; rfl
/-- The expert weights are fetched before the body runs. -/
theorem before_3 (c : Dev nD) (d) : (dats m 0 c).before (3 : Fin 6) t0_0 d = (inp m c).ew := by unfold Dat.before; rw [if_pos (fetch0_3 t0_0)]; rfl
/-- The shared weights are fetched before the body runs. -/
theorem before_4 (c : Dev nD) (d) : (dats m 0 c).before (4 : Fin 6) t0_0 d = (inp m c).sw := by unfold Dat.before; rw [if_pos (fetch0_4 t0_0)]; rfl

/-! ## The body's obligation -/

/-- What the body is run from, with the staged arrays. -/
def bodyPre (c : Dev nD) : sProp 𝕄 :=
  iprop(Φ₀ m c ∗ (dats m 0 c).owesAt () (Fin.castSucc (t0_0 : Fin cfg0.N))
    ∗ (∃ d, stg c cc0_stg0_0 ((dats m 0 c).before (0 : Fin 6) t0_0 d)) ∗ (∃ d, stg c cc0_stg1_0 ((dats m 0 c).before (1 : Fin 6) t0_0 d))
    ∗ (∃ d, stg c cc0_stg2_0 ((dats m 0 c).before (2 : Fin 6) t0_0 d)) ∗ (∃ d, stg c cc0_stg3_0 ((dats m 0 c).before (3 : Fin 6) t0_0 d))
    ∗ (∃ d, stg c cc0_stg4_0 ((dats m 0 c).before (4 : Fin 6) t0_0 d)) ∗ (∃ d, stg c cc0_stg5_0 ((dats m 0 c).before (5 : Fin 6) t0_0 d)))
/-- What the body leaves, with the staged arrays. -/
def bodyPost (c : Dev nD) : sProp 𝕄 :=
  iprop(Φ₁ c ∗ (dats m 0 c).owesAt () (Fin.succ (t0_0 : Fin cfg0.N))
    ∗ stg c cc0_stg0_0 (inp m c).x ∗ stg c cc0_stg1_0 (inp m c).rw ∗ stg c cc0_stg2_0 (inp m c).ix ∗ stg c cc0_stg3_0 (inp m c).ew
    ∗ stg c cc0_stg4_0 (inp m c).sw ∗ stg c cc0_stg5_0 (outF (inp m) c))

/-- The body, run from its precondition, ends in its postcondition. -/
theorem sound_body (c : Dev nD) : bodyPre m c ⊢ run c body (fun _ => bodyPost m c) := by
  unfold bodyPre Φ₀ start
  iintro ⟨⟨⟨⟨%K, HR⟩, HL, Hp⟩, Hs⟩, Ho, ⟨%d0, H0⟩, ⟨%d1, H1⟩, ⟨%d2, H2⟩, ⟨%d3, H3⟩, ⟨%d4, H4⟩, ⟨%d5, %f, -, H5⟩⟩
  unfold Dat.owesAt Pipeline.owesWithin
  icases Ho with ⟨%W, %hW, Ho⟩
  iapply (run_body (inp m) K c (Q := fun _ => bodyPost m c)) $$ [HR HL Hp Hs Ho H0 H1 H2 H3 H4 H5]
  · isplitl [HR]; · iexact HR
    isplitl [HL]; · iexact HL
    isplitl [Ho]; · unfold owesX; iexists W; iexact Ho
    isplitl [Hp]; · iexact Hp
    isplitl [H0 H1 H2 H3 H4]
    · unfold insP
      isplitl [H0]; · iapply (stg_elim c cc0_stg0_0 _ _ (before_0 m c d0)); iexact H0
      isplitl [H1]; · iapply (stg_elim c cc0_stg1_0 _ _ (before_1 m c d1)); iexact H1
      isplitl [H2]; · iapply (stg_elim c cc0_stg2_0 _ _ (before_2 m c d2)); iexact H2
      isplitl [H3]; · iapply (stg_elim c cc0_stg3_0 _ _ (before_3 m c d3)); iexact H3
      iapply (stg_elim c cc0_stg4_0 _ _ (before_4 m c d4)); iexact H4
    isplitl [Hs]; · iexact Hs
    iexists f; iexact H5
  iintro ⟨Ho, Hz, Hc, Hin, Hs, Hout⟩
  unfold bodyPost Φ₁ Dat.owesAt Pipeline.owesWithin owesX insP
  icases Ho with ⟨%W', Ho⟩
  icases Hin with ⟨H0, H1, H2, H3, H4⟩
  rw [owed_none, show (dats m 0 c).owed (Fin.succ (t0_0 : Fin cfg0.N)) = 0 from rfl]
  isplitl [Hz Hc Hs]
  · isplitl [Hz]; · iexact Hz
    isplitl [Hc] <;> iassumption
  isplitl [Ho]
  · iexists W'
    isplitr; · ipureintro; exact fun _ _ => Or.inl trivial
    iexact Ho
  isplitl [H0]; · iapply (stg_intro c cc0_stg0_0); iexact H0
  isplitl [H1]; · iapply (stg_intro c cc0_stg1_0); iexact H1
  isplitl [H2]; · iapply (stg_intro c cc0_stg2_0); iexact H2
  isplitl [H3]; · iapply (stg_intro c cc0_stg3_0); iexact H3
  isplitl [H4]; · iapply (stg_intro c cc0_stg4_0); iexact H4
  iapply (stg_intro c cc0_stg5_0); iexact Hout

set_option maxRecDepth 100000 in
/-- The body meets what the staging asks of it, on every device. -/
theorem body_obligation (c : Dev nD) : BodyObligation (dats (F := F) m 0 c) (defs₀ (F := F)) 𝒱₀ () Set.univ := fun t => by
  rw [show t = t0_0 from fin_N0 t, bigSep_win, bigSep_win]
  simp only [owns_eq]
  show bodyPre m c ⊢ run c (cc0_body xM (hstage0_0 0) rwM (hstage0_1 0) ixM (hstage0_2 0) ewM (hstage0_3 0) swM (hstage0_4 0) oM (hstage0_5 0)
    redM (Memref.isWhole_whole _) aM (Memref.isWhole_whole _) bM (Memref.isWhole_whole _) shM (Memref.isWhole_whole _)
    xbM (Memref.isWhole_whole _) ebM (Memref.isWhole_whole _) sbM (Memref.isWhole_whole _)
    cc0_scratch7 cc0_scratch8 cc0_scratch9 cc0_scratch10 cc0_scratch11 cc0_scratch12 cc0_scratch13 cc0_scratch14) (fun _ => bodyPost m c)
  rw [cc0_body_eq]
  exact sound_body m c

/-! ## The theorem's side conditions -/

/-- The transfers' semaphores are the kernel's own, and none of them stages an array. -/
theorem ownSemFacts : Pipeline.OwnSemFacts cfg0.spec osem where
  isScoped := by decide +kernel
  inj := osem_inj
  disj := by
    have h6 : ∀ (w : Fin 6) (s : Fin (spec0 w).nbuf), ((spec0 w).sem s).val < 6 := by decide +kernel
    intro k w s h
    have h1 := dec_csem (some k)
    rw [show csem (some k) = osem k from rfl, h, dec_stage _ (h6 w s)] at h1
    cases h1

/-- Every staged array is owned whole. -/
theorem share_eq (c : Dev nD) (w : Fin cfg0.W) : (dats m 0 c).share w = fullShare := by unfold Dat.share; split <;> rfl

/-- What the launch leaves a device is what its body starts from. -/
theorem start_intro (c : Dev nD) :
    iprop(Pipeline.unscopedRestP Pipeline.Prefetch.none cfg0.spec c (fun b => m ((c : Thread nD τ).loc b)) ∗ levAts L lv
        ∗ Pipeline.launchCred (fun c => owed c 0) c ∗ prngReg c (ρ c) ∗ G' (inp m) c)
      ⊢ |={Set.univ}=> iprop(start m c ∗ emp) := by
  unfold G' start
  iintro ⟨-, HL, Hcr, -, ⟨%K, HR, Hat, Htok⟩⟩
  imodintro
  isplitl
  · isplitl [HR]; · iexists K; iexact HR
    isplitl [HL]; · iexact HL
    iapply (proto_intro c)
    isplitl [Hat]; · iexact Hat
    isplitl [Htok] <;> iassumption
  · iempintro

/-- With the scratch buffers, that is what the body holds before its step. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratchE
  iintro ⟨Hs, -, Hr⟩
  isplitl [Hs] <;> iassumption

/-- After its step the body gives back the semaphores at zero and the scratch buffers. -/
theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, own_eq, unscoped_eq]
  exact BI.Entails.refl _

/-- The waits of the staging are below all that a device owes. -/
theorem stageWaits (c : Dev nD) : (levAts L lv : sProp 𝕄) ⊢ Pipeline.cellsWaits cfgs (dats m) () 0 c :=
  Pipeline.cellsWaits_intro cfgs (dats m) () 0 c fun w s t => by
    have h6 : ∀ (w : Fin 6) (s : Fin (spec0 w).nbuf), ((spec0 w).sem s).val < 6 := by decide +kernel
    have h (n : ℕ) : (levAts L lv : sProp 𝕄) ⊢ MayWait (c : Thread nD τ) (.dma ((spec0 w).sem s)) () (owed c n) :=
      mayWait c _ n fun d _ => by rw [dec_stage _ (h6 w s)]; exact dlvl_pos d
    rcases t with ⟨_ | _, ht⟩
    · exact h 0
    · have h36 := h 36; rw [owed_none] at h36; exact h36

/-! ## The run -/

/-- The result array of device `c` after the run. -/
def final (c : Dev nD) : Buf (Elt F) ((c : Thread nD τ).loc main_v1) := (dats m 0 c).arrAt (5 : Fin 6) cfg0.N

/-- What the run leaves: the result, the arguments, zero counters. -/
def Done (r : PUnit × MemSt nD τ sig (Elt F)) : Prop :=
  (∀ c : Dev nD, r.2.mem ((c : Thread nD τ).loc main_v1) = final m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4))
  ∧ r.2.sem = fun _ => 0

set_option maxRecDepth 100000 in
/-- For any float values, from any memory with zero counters, every weakly fair execution of @main on the sixteen devices
    terminates, with the result array at `final`, the arguments unchanged and every counter at zero. -/
theorem run_main : θ_run defs (onTc (τ := τ) (main (F := F))) ⟨m, fun _ => 0, ρ⟩ (Done m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => body_obligation m c) (hne := block_pos0) (harr := arr_whole0) (hstage := stage_whole0) (hshare := share_eq m)
    (hdistinct := winFacts0.arr_inj)
    (O₀ := fun c => owed c 0) (howed₀ := fun _ => rfl) (howedN := fun _ => rfl)
    (L := L) (lv := lv) (hL := L_of_ne) (hwaits := stageWaits m)
    (G := G (inp m)) (G' := G' (inp m)) (u₀ := u₀)
    (hu₀ := by
      unfold u₀
      iintro Hu
      ihave H := (ownU_pair _ _) $$ Hu
      icases H with ⟨HP, HX⟩
      imod (fund (inp m)) $$ HX with HG
      imodintro
      isplitl [HP] <;> iassumption)
    (hglob := glob (inp m))
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c => ⟨(h c).1 (5 : Fin 6),
        ((h c).1 (0 : Fin 6)).trans ((dats m 0 c).arrAt_in (0 : Fin 6) rfl _), ((h c).1 (1 : Fin 6)).trans ((dats m 0 c).arrAt_in (1 : Fin 6) rfl _),
        ((h c).1 (2 : Fin 6)).trans ((dats m 0 c).arrAt_in (2 : Fin 6) rfl _), ((h c).1 (3 : Fin 6)).trans ((dats m 0 c).arrAt_in (3 : Fin 6) rfl _),
        ((h c).1 (4 : Fin 6)).trans ((dats m 0 c).arrAt_in (4 : Fin 6) rfl _)⟩, sem_eq_zero hs fun c => (h c).2.2⟩)

end Cert.Moe
-- ==== Proof.Frames.lean ====
/-
# 01_k — the frames

Kernel, idealized kernel and reference each run to the end, leave their arguments as they were and every semaphore at zero.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run
public import proofs.«01_k».proof.Proof.Gen.Pre_routed_KernelIdeal
public import proofs.«01_k».proof.Proof.Gen.Pre_routed_ReferenceIdeal

@[expose] public section

noncomputable section

namespace Cert.Moe

open Idealize.ShloMosaic Idealize.ShloMosaic.TcCoe Idealize.SL.Sem

/-- The kernels' body tables of the two programs are one function: their texts are the same. -/
theorem bodies_eq : Cert.Kernel.defs₀ (F := Bits) = Cert.KernelIdeal.defs₀ (F := Bits) := by
  unfold Cert.Kernel.defs₀ Cert.KernelIdeal.defs₀
  refine congrArg Defs.onTc ?_
  funext a b
  match a, b with
  | 0, (t, s) => rfl
  | ⟨n + 1, h⟩, _ => exact absurd h (Nat.not_lt.2 (Nat.le_add_left _ _))
/-- So are the whole tables. -/
theorem defs_eq : Cert.Kernel.defs (F := Bits) = Cert.KernelIdeal.defs (F := Bits) := by
  unfold Cert.Kernel.defs Cert.KernelIdeal.defs
  exact congrArg (Pipeline.defs _) bodies_eq

/-- The printed kernel and its reading at the extended reals are one text, so one run serves both. -/
theorem frame_kernel : Cert.quiescent_Kernel := fun m ρ _ => by
  rw [defs_eq]
  exact (θ_run Cert.KernelIdeal.defs _ _).mono (fun _ h => ⟨fun c => (h.1 c).2, h.2⟩) (run_main (F := Bits) m ρ)
/-- The idealized kernel ends, its arguments unchanged, every semaphore at zero. -/
theorem frame_ideal : Cert.quiescent_KernelIdeal := fun m ρ _ =>
  (θ_run Cert.KernelIdeal.defs _ _).mono (fun _ h => ⟨fun c => (h.1 c).2, h.2⟩) (run_main (F := Ideal) m ρ)
/-- The same of the arguments that the value claim speaks of. -/
theorem frame_ideal_routed : Cert.quiescent_KernelIdeal_pre_routed_KernelIdeal := fun m ρ _ => frame_ideal m ρ trivial

/-- The reference ends with its arguments unchanged; it has no semaphore at all. -/
theorem frame_reference : Cert.quiescent_ReferenceIdeal := fun m ρ _ =>
  (θ_run Cert.ReferenceIdeal.defs _ _).mono
    (fun r h => ⟨fun c => (h c).2, funext fun g => by
      rcases g with ⟨⟨d, p⟩, s⟩
      rcases s with s | s <;> exact s.elim0⟩)
    (Cert.ReferenceIdeal.Value.run (F := Ideal) m ρ)
/-- The same of the arguments that the value claim speaks of. -/
theorem frame_reference_routed : Cert.quiescent_ReferenceIdeal_pre_routed_ReferenceIdeal := fun m ρ _ => frame_reference m ρ trivial

end Cert.Moe
-- ==== Proof.Arrays.lean ====
/-
# 01_k — the arrays

The five staged arguments are the whole argument arrays, and the result array ends as the staged result.
-/
module

public import proofs.«01_k».proof.Proof.Launch
public import Idealize.ShloMosaic.Lib.Pipeline.ValueKit.Geometry
public import Idealize.ShloMosaic.Lib.Layout

@[expose] public section

noncomputable section

namespace Cert.Moe

open Cert.KernelIdeal Cert.KernelIdeal.Gen
open Idealize.ShloMosaic Idealize.ShloMosaic.TcCoe Idealize.SL Idealize.SL.Sem

variable {F : FTy → Type} [FloatOps F] (m : (ℓ : Loc nD τ sig) → Buf (Elt F) ℓ)

/-- The result window writes its whole array, once. -/
theorem whole_5 : win0_5.WholeAt (0 : Fin 1) :=
  ⟨flush0_5 (0 : Fin 1), fun t _ => fin_N0 t, fun a => ⟨rfl, rfl⟩⟩
/-- The result array ends as the body leaves it staged. -/
theorem final_eq (c : Dev nD) : final m c = outF (inp m) c :=
  (dats m 0 c).arrAt_eq_of_after_last (5 : Fin 6) (0 : Fin 1) whole_5 (outF (inp m) c) (fun j => rfl)

/-- The staged arguments are the argument arrays. -/
theorem inp_x (c : Dev nD) : (inp m c).x = m ((c : Thread nD τ).loc main_arg0) :=
  funext fun y => congrArg (m ((c : Thread nD τ).loc main_arg0)) (funext fun a => Fin.ext (win0_0.rect_emb_val_of_index_zero (0 : Fin 1) a rfl y))
/-- The staged router is the second argument array. -/
theorem inp_rw (c : Dev nD) : (inp m c).rw = m ((c : Thread nD τ).loc main_arg1) :=
  funext fun y => congrArg (m ((c : Thread nD τ).loc main_arg1)) (funext fun a => Fin.ext (win0_1.rect_emb_val_of_index_zero (0 : Fin 1) a rfl y))
/-- The staged expert choices are the third argument array. -/
theorem inp_ix (c : Dev nD) : (inp m c).ix = m ((c : Thread nD τ).loc main_arg2) :=
  funext fun y => congrArg (m ((c : Thread nD τ).loc main_arg2)) (funext fun a => Fin.ext (win0_2.rect_emb_val_of_index_zero (0 : Fin 1) a rfl y))
/-- The staged expert weights are the fourth argument array. -/
theorem inp_ew (c : Dev nD) : (inp m c).ew = m ((c : Thread nD τ).loc main_arg3) :=
  funext fun y => congrArg (m ((c : Thread nD τ).loc main_arg3)) (funext fun a => Fin.ext (win0_3.rect_emb_val_of_index_zero (0 : Fin 1) a rfl y))
/-- The staged shared weights are the fifth argument array. -/
theorem inp_sw (c : Dev nD) : (inp m c).sw = m ((c : Thread nD τ).loc main_arg4) :=
  funext fun y => congrArg (m ((c : Thread nD τ).loc main_arg4)) (funext fun a => Fin.ext (win0_4.rect_emb_val_of_index_zero (0 : Fin 1) a rfl y))

end Cert.Moe
-- ==== Proof.Layer.lean ====
/-
# 01_k — the layer over the extended reals

The mathematics, apart from any program: a token's gate, the factor that leaves the product, the one expert of the 64
that counts, and a sum over sixteen devices added up in two levels.
-/
module

public import proofs.«01_k».proof.Proof.Mesh
public import Idealize.ShloMosaic.PureOps.Ideal

@[expose] public section

noncomputable section

namespace Cert.Moe

open Cert.KernelIdeal Cert.KernelIdeal.Gen
open Idealize.ShloMosaic

/-! ## The gate -/

/-- The greatest of a token's 64 scores. -/
def top (s : Fin 64 → EReal) : EReal := Finset.univ.fold max (Ideal.ofBits .f32 0xFF800000#32) s
/-- The sum of the exponentials of the scores, less the greatest. -/
def mass (s : Fin 64 → EReal) : EReal := ∑ e, Ideal.exp (s e - top s)
/-- What the kernel weighs a token's expert by. -/
def gate (s : Fin 64 → EReal) : EReal := Ideal.div 1 (mass s)

/-- An exponential is not negative. -/
theorem exp_nonneg (r : EReal) : 0 ≤ Ideal.exp r := by
  induction r with
  | bot => simp
  | top => simp
  | coe r => simpa using (Real.exp_pos r).le
/-- The exponential of zero is one. -/
theorem exp_zero : Ideal.exp 0 = 1 := by
  rw [show (0 : EReal) = ((0 : ℝ) : EReal) from rfl, Ideal.exp_coe, Real.exp_zero]; rfl

/-- A greatest score's exponential is 1, so the sum is at least 1. -/
theorem one_le_mass (s : Fin 64 → EReal) (E : Fin 64) (h : s E - top s = 0) : 1 ≤ mass s := by
  have := Finset.single_le_sum (f := fun e => Ideal.exp (s e - top s)) (fun e _ => exp_nonneg _) (Finset.mem_univ E)
  rwa [h, exp_zero] at this
/-- The gate is not negative, -/
theorem gate_nonneg (s : Fin 64 → EReal) (E : Fin 64) (h : s E - top s = 0) : 0 ≤ gate s := by
  have h1 := one_le_mass s E h
  have h0 : (0 : EReal) < mass s := lt_of_lt_of_le zero_lt_one h1
  rw [gate, Ideal.div, if_neg h0.ne', one_mul]
  exact EReal.inv_nonneg_of_nonneg h0.le
/-- and it is finite. -/
theorem gate_ne_top (s : Fin 64 → EReal) (E : Fin 64) (h : s E - top s = 0) : gate s ≠ ⊤ := by
  have h1 := one_le_mass s E h
  have h0 : (0 : EReal) < mass s := lt_of_lt_of_le zero_lt_one h1
  rw [gate, Ideal.div, if_neg h0.ne', one_mul]
  induction hm : mass s with
  | bot => simp
  | top => simp
  | coe r => rw [← EReal.coe_inv]; exact EReal.coe_ne_top _
/-- The probability of a greatest score is the gate. -/
theorem prob_eq_gate (s : Fin 64 → EReal) (E : Fin 64) (h : s E - top s = 0) :
    Ideal.div (Ideal.exp (s E - top s)) (mass s) = gate s := by
  rw [h, exp_zero, gate]

/-! ## The chosen expert -/

/-- A finite factor that is not negative leaves a sum. -/
theorem mul_sum_of_finite {ι : Type} (S : Finset ι) (g : EReal) (h0 : 0 ≤ g) (ht : g ≠ ⊤) (f : ι → EReal) :
    ∑ k ∈ S, g * f k = g * ∑ k ∈ S, f k := by
  classical
  induction S using Finset.induction_on with
  | empty => simp
  | insert a S ha ih => rw [Finset.sum_insert ha, Finset.sum_insert ha, ih, EReal.left_distrib_of_nonneg_of_ne_top h0 ht]

/-- One expert's share of a token: the token's row, weighed by the gate where the expert is the token's, by zero
    elsewhere, times the expert's column. -/
def share {n : Nat} (x : Fin n → EReal) (g : EReal) (hit : Prop) [Decidable hit] (w : Fin n → EReal) : EReal :=
  ∑ k, x k * (g * (if hit then 1 else 0)) * w k

/-- An expert that is not the token's gives nothing, -/
theorem share_miss {n : Nat} (x : Fin n → EReal) (g : EReal) (hit : Prop) [Decidable hit] (w : Fin n → EReal) (h : ¬ hit) :
    share x g hit w = 0 := by
  rw [share]; simp [h]
/-- the token's own gives the gate times the product. -/
theorem share_hit {n : Nat} (x : Fin n → EReal) (g : EReal) (hit : Prop) [Decidable hit] (w : Fin n → EReal) (h : hit)
    (h0 : 0 ≤ g) (ht : g ≠ ⊤) : share x g hit w = g * ∑ k, x k * w k := by
  rw [share, ← mul_sum_of_finite _ g h0 ht]
  refine Finset.sum_congr rfl fun k _ => ?_
  rw [if_pos h, mul_one, mul_comm (x k) g, mul_assoc]

set_option backward.proofsInPublic true in
/-- Expert `k` of device `c`. -/
def expertOf (c : Dev nD) (k : Fin 4) : Fin 64 := ⟨4 * c.val + k.val, by have : c.val < 16 := c.isLt; omega⟩

/-- A device's shares of a token, added up in order. -/
def shares {n : Nat} (x : Fin n → EReal) (g : EReal) (E : Fin 64) (w : Fin 64 → Fin n → EReal) (c : Dev nD) : EReal :=
  ((share x g (E = expertOf c 0) (w (expertOf c 0)) + share x g (E = expertOf c 1) (w (expertOf c 1)))
    + share x g (E = expertOf c 2) (w (expertOf c 2))) + share x g (E = expertOf c 3) (w (expertOf c 3))

/-- All the devices' shares of a token are the gate times the product with its expert. -/
theorem sum_shares {n : Nat} (x : Fin n → EReal) (g : EReal) (E : Fin 64) (w : Fin 64 → Fin n → EReal)
    (h0 : 0 ≤ g) (ht : g ≠ ⊤) : ∑ c, shares x g E w c = g * ∑ k, x k * w E k := by
  have e : ∀ c, shares x g E w c = ∑ k : Fin 4, share x g (E = expertOf c k) (w (expertOf c k)) := fun c => by
    rw [shares, Fin.sum_univ_four]
  simp only [e]
  rw [← Fintype.sum_prod_type' (f := fun (c : Dev nD) (k : Fin 4) => share x g (E = expertOf c k) (w (expertOf c k)))]
  have inj : ∀ a b : Dev nD × Fin 4, expertOf a.1 a.2 = expertOf b.1 b.2 → a = b := by
    rintro ⟨a, i⟩ ⟨b, j⟩ h
    have h := congrArg Fin.val h
    simp only [expertOf] at h
    exact Prod.ext (Fin.ext (by dsimp only; omega)) (Fin.ext (by dsimp only; omega))
  have hE : E = expertOf (⟨E.val / 4, by show E.val / 4 < 16; omega⟩ : Dev nD) (⟨E.val % 4, by omega⟩ : Fin 4) :=
    Fin.ext (by simp only [expertOf]; omega)
  rw [Finset.sum_eq_single ((⟨E.val / 4, by show E.val / 4 < 16; omega⟩ : Dev nD), (⟨E.val % 4, by omega⟩ : Fin 4))]
  · rw [share_hit _ _ _ _ hE h0 ht, ← hE]
  · intro b _ hb
    exact share_miss _ _ _ _ fun h => hb (inj _ _ (h.symm.trans hE))
  · intro h; exact absurd (Finset.mem_univ _) h

/-! ## Two levels of sums -/

/-- A device's group, in the order in which the device adds it up: itself, then the other three. -/
def grpL (c : Dev nD) : List (Dev nD) := [c, grpD c 2, grpD c 1, grpD c 0]
/-- The devices at its place in the four groups, likewise. -/
def crsL (c : Dev nD) : List (Dev nD) := [c, crsD c 2, crsD c 1, crsD c 0]

/-- The groups of the devices at one place are all the devices. -/
theorem all_perm (r : Dev nD) : ((crsL r).flatMap grpL).Perm (List.finRange 16) := by
  revert r; decide +kernel

/-- Four terms in a row. -/
def sum4 (a b c d : EReal) : EReal := ((a + b) + c) + d

/-- The groups' sums, summed, are the sum over all devices. -/
theorem sum4_sum4 (f : Dev nD → EReal) (r : Dev nD) (G : Dev nD → EReal)
    (hG : ∀ c, G c = sum4 (f c) (f (grpD c 2)) (f (grpD c 1)) (f (grpD c 0))) :
    sum4 (G r) (G (crsD r 2)) (G (crsD r 1)) (G (crsD r 0)) = ∑ c, f c := by
  have h := ((all_perm r).map f).sum_eq
  have hs : ((List.finRange 16).map f).sum = ∑ c, f c := (Fin.sum_univ_def f).symm
  rw [← hs, ← h]
  simp only [crsL, grpL, List.flatMap_cons, List.flatMap_nil, List.append_nil, List.map_append, List.map_cons, List.map_nil,
    List.sum_append, List.sum_cons, List.sum_nil, hG, sum4, add_zero, add_assoc]

end Cert.Moe
-- ==== Proof.Result.lean ====
/-
# 01_k — what the kernel computes

The stored values of a block, of a sum and of the result, read at an index over the extended reals; then the result of
a device whose sixteen peers hold the same tokens and each four of the 64 experts.
-/
module

public import proofs.«01_k».proof.Proof.Values
public import proofs.«01_k».proof.Proof.Layer
public import Idealize.ShloMosaic.Lib.Pointwise

@[expose] public section

noncomputable section

namespace Cert.Moe

open Cert.KernelIdeal Cert.KernelIdeal.Gen
open Idealize.ShloMosaic

/-! ## The stored values -/

/-- The mask of a chosen expert, as a number. -/
theorem mask_apply (a b : BitVec 32) :
    (FloatOps.sitofp (F := Ideal) FTy.f32 (BitVec.setWidth 32 (IntOp.cmpi CmpIPredicate.eq a b)) : EReal) = if a = b then 1 else 0 := by
  show ((((BitVec.setWidth 32 (IntOp.cmpi CmpIPredicate.eq a b)).toInt : ℤ) : ℝ) : EReal) = _
  by_cases h : a = b
  · subst h; simp [IntOp.cmpi]
  · rw [if_neg h]
    have hb : IntOp.cmpi CmpIPredicate.eq a b = 0#1 := by
      show BitVec.ofBool (a == b) = 0#1
      rw [beq_eq_false_iff_ne.mpr h]; rfl
    rw [hb]; simp

set_option backward.proofsInPublic true in
/-- The row of a block that chunk `q` holds at `u`. -/
def inBlock (q : Fin 4) (u : Fin 64) : Fin 256 := ⟨q.val * 64 + u.val, by omega⟩

/-- The weight of a row of a block: its gate. -/
theorem weight_apply (xb : Vec Ideal S256x512 .f32) (rw : Vec Ideal S512x64 .f32) (t : Fin 256) :
    k0_pay8 xb rw (ix2 t 0) = gate fun e => ∑ k : Fin 512, xb (ix2 t k) * rw (ix2 k e) := by
  have h : k0_pay8 xb rw (ix2 t 0) = Ideal.div 1 (∑ e, Ideal.exp (∑ k, xb (ix2 t k) * rw (ix2 k e)
      - Finset.fold max (Ideal.ofBits FTy.f32 0xFF800000#32) (fun e => ∑ k, xb (ix2 t k) * rw (ix2 k e)) Finset.univ)) := by
    pointwise [k0_pay8, k0_pay6]
  exact h

/-- A block's partial products: the four experts' shares. -/
theorem blockOf_apply (w : BitVec 32) (xb : Vec Ideal S256x512 .f32) (ib : Vec Ideal S256x1 .i32) (rw : Vec Ideal S512x64 .f32)
    (e0 e1 e2 e3 : Vec Ideal S1x512x1024 .bf16) (q : Fin 4) (u : Fin 64) (v : Fin 1024) :
    (blockOf w xb ib rw e0 e1 e2 e3 (ix3 q u v) : EReal)
      = ((share (fun k => xb (ix2 (inBlock q u) k)) (k0_pay8 xb rw (ix2 (inBlock q u) 0))
            (ib (ix2 (inBlock q u) 0) = Scalar.addi (Scalar.muli w 4#32) 0#32) (fun k => e0 (ix3 0 k v))
          + share (fun k => xb (ix2 (inBlock q u) k)) (k0_pay8 xb rw (ix2 (inBlock q u) 0))
            (ib (ix2 (inBlock q u) 0) = Scalar.addi (Scalar.muli w 4#32) 1#32) (fun k => e1 (ix3 0 k v)))
          + share (fun k => xb (ix2 (inBlock q u) k)) (k0_pay8 xb rw (ix2 (inBlock q u) 0))
            (ib (ix2 (inBlock q u) 0) = Scalar.addi (Scalar.muli w 4#32) 2#32) (fun k => e2 (ix3 0 k v)))
          + share (fun k => xb (ix2 (inBlock q u) k)) (k0_pay8 xb rw (ix2 (inBlock q u) 0))
            (ib (ix2 (inBlock q u) 0) = Scalar.addi (Scalar.muli w 4#32) 3#32) (fun k => e3 (ix3 0 k v)) := by
  simp only [share, ← mask_apply]
  pointwise [blockOf, k0_pay12, k0_pay11, k0_pay9, k0_pay10, k0_pay7, k0_pay6]
  rfl

/-- The sum of four chunks. -/
theorem sumOf_apply (a b c d : Vec Ideal S1x64x1024 .bf16) (u : Fin 64) (v : Fin 1024) :
    (sumOf a b c d (ix3 0 u v) : EReal) = sum4 (a (ix3 0 u v)) (b (ix3 0 u v)) (c (ix3 0 u v)) (d (ix3 0 u v)) := by
  have h : sumOf a b c d (ix3 0 u v) = ((a (ix3 0 u v) + b (ix3 0 u v)) + c (ix3 0 u v)) + d (ix3 0 u v) := by
    pointwise [sumOf, k0_pay36, k0_pay35]
  exact h

/-- The shared product. -/
theorem sharedOf_apply (xb : Vec Ideal S256x512 .bf16) (sw : Vec Ideal S512x1024 .bf16) (t : Fin 256) (v : Fin 1024) :
    (sharedOf xb sw (ix2 t v) : EReal) = ∑ k : Fin 512, xb (ix2 t k) * sw (ix2 k v) := by
  pointwise [sharedOf, k0_pay33]

set_option backward.proofsInPublic true in
/-- A row of a block as a chunk and a row in it. -/
def rowQ (t : Fin 256) : Fin 4 := ⟨t.val / 64, by omega⟩
set_option backward.proofsInPublic true in
/-- The row in its chunk of a row of a block. -/
def rowU (t : Fin 256) : Fin 64 := ⟨t.val % 64, by omega⟩

/-- A block of the result. -/
theorem outOf_apply (r : Vec Ideal S4x64x1024 .bf16) (s : Vec Ideal S256x1024 .f32) (t : Fin 256) (v : Fin 1024) :
    (outOf r s (ix2 t v) : EReal) = r (ix3 (rowQ t) (rowU t) v) + s (ix2 t v) := by
  have h : outOf r s (ix2 t v) = r (ix3 ⟨t.val / 64, by omega⟩ ⟨t.val % 64, by omega⟩ v) + s (ix2 t v) := by
    pointwise [outOf, k0_pay46]
  exact h

/-- Over the extended reals the rounded inputs are the inputs. -/
theorem xbF_apply (I : Dev nD → Inp Ideal) (c : Dev nD) (i : S1024x512.Idx) : (xbF I c i : EReal) = (I c).x i := by
  pointwise [xbF, k0_pay2]
/-- The rounded expert weights are the expert weights. -/
theorem ebF_apply (I : Dev nD → Inp Ideal) (c : Dev nD) (i : S4x512x1024.Idx) : (ebF I c i : EReal) = (I c).ew i := by
  pointwise [ebF, k0_pay4, k0_pay3]
/-- The rounded shared weights are the shared weights. -/
theorem sbF_apply (I : Dev nD → Inp Ideal) (c : Dev nD) (i : S512x1024.Idx) : (sbF I c i : EReal) = (I c).sw i := by
  pointwise [sbF, k0_pay5]

/-! ## The chosen expert, in words -/

/-- The number of a device's expert, as the program computes it. -/
theorem word_expert (c : Dev nD) (k : Fin 4) :
    Scalar.addi (Scalar.muli (word c) 4#32) (BitVec.ofNat 32 k.val) = BitVec.ofNat 32 (expertOf c k).val := by
  revert c k; decide +kernel
/-- Two of the 64 experts have the same word only where they are the same. -/
theorem word_inj (a b : Fin 64) : BitVec.ofNat 32 a.val = BitVec.ofNat 32 b.val ↔ a = b := by
  constructor
  · intro h
    have h := congrArg BitVec.toNat h
    simp only [BitVec.toNat_ofNat] at h
    have := a.isLt; have := b.isLt
    exact Fin.ext (by omega)
  · rintro rfl; rfl

/-- A share depends on the expert alone, not on how the match is written. -/
theorem share_congr {n : Nat} (x : Fin n → EReal) (g : EReal) (p q : Prop) [Decidable p] [Decidable q] (h : p ↔ q) (w : Fin n → EReal) :
    share x g p w = share x g q w := by
  by_cases hp : p
  · simp only [share, if_pos hp, if_pos (h.mp hp)]
  · simp only [share, if_neg hp, if_neg fun hq => hp (h.mpr hq)]

/-! ## The result -/

set_option backward.proofsInPublic true in
/-- The token of chunk `r` at `u`. -/
def token (r : Fin 16) (u : Fin 64) : Fin 1024 := ⟨64 * r.val + u.val, by omega⟩

/-- A chunk's row, found in its block, is its token. -/
theorem row_inBlock (r : Fin 16) (u : Fin 64) : row (chB r) (inBlock (chR r) u) = token r u :=
  Fin.ext (by simp only [row, chB, chR, inBlock, token]; omega)
/-- A token is found again from its block, its chunk there and its row. -/
theorem token_row (i : Fin 1024) : token (ch (rowB i) (rowQ (rowR i))) (rowU (rowR i)) = i :=
  Fin.ext (by simp only [token, ch, rowB, rowQ, rowR, rowU]; omega)

/-- The sixteen devices hold the same tokens, router and shared weights, and each its four of the 64 experts. -/
structure Same (I : Dev nD → Inp Ideal) (X : Vec Ideal S1024x512 .f32) (RW : Vec Ideal S512x64 .f32) (IX : Vec Ideal S1024x1 .i32)
    (EW : (⟨3, ![64, 512, 1024]⟩ : Shape).Idx → EReal) (SW : Vec Ideal S512x1024 .f32) : Prop where
  x : ∀ c, (I c).x = X
  rw : ∀ c, (I c).rw = RW
  ix : ∀ c, (I c).ix = IX
  ew : ∀ c k d v, (I c).ew (ix3 k d v) = EW (ix3 (expertOf c k) d v)
  sw : ∀ c, (I c).sw = SW

variable {I : Dev nD → Inp Ideal} {X : Vec Ideal S1024x512 .f32} {RW : Vec Ideal S512x64 .f32} {IX : Vec Ideal S1024x1 .i32}
  {EW : (⟨3, ![64, 512, 1024]⟩ : Shape).Idx → EReal} {SW : Vec Ideal S512x1024 .f32}

/-- A token's scores. -/
def score (X : Vec Ideal S1024x512 .f32) (RW : Vec Ideal S512x64 .f32) (i : Fin 1024) : Fin 64 → EReal :=
  fun e => ∑ k : Fin 512, X (ix2 i k) * RW (ix2 k e)

/-- A device's partial product for a token is its shares of it. -/
theorem partF_apply (hS : Same I X RW IX EW SW) (E : Fin 1024 → Fin 64) (hE : ∀ i, IX (ix2 i 0) = BitVec.ofNat 32 (E i).val)
    (c : Dev nD) (r : Fin 16) (u : Fin 64) (v : Fin 1024) :
    (partF I c (ix3 r u v) : EReal)
      = shares (fun k => X (ix2 (token r u) k)) (gate (score X RW (token r u))) (E (token r u)) (fun e k => EW (ix3 e k v)) c := by
  refine (blockOf_apply (word c) (rows (I c).x (chB r)) (rows (I c).ix (chB r)) (I c).rw (part (ebF I c) 0) (part (ebF I c) 1)
    (part (ebF I c) 2) (part (ebF I c) 3) (chR r) u v).trans ?_
  have hx : ∀ k : Fin 512, rows (I c).x (chB r) (ix2 (inBlock (chR r) u) k) = X (ix2 (token r u) k) := fun k => by
    rw [hS.x, ← row_inBlock]; rfl
  have hi : rows (I c).ix (chB r) (ix2 (inBlock (chR r) u) 0) = BitVec.ofNat 32 (E (token r u)).val := by
    rw [hS.ix, ← hE, ← row_inBlock]; rfl
  have hg : (k0_pay8 (rows (I c).x (chB r)) (I c).rw (ix2 (inBlock (chR r) u) 0) : EReal) = gate (score X RW (token r u)) := by
    rw [weight_apply]; refine congrArg gate (funext fun e => Finset.sum_congr rfl fun k _ => ?_)
    rw [hx, hS.rw]
  have hw : ∀ (j : Fin 4) (k : Fin 512), (part (ebF I c) j (ix3 0 k v) : EReal) = EW (ix3 (expertOf c j) k v) := fun j k =>
    (ebF_apply I c (ix3 j k v)).trans (hS.ew c j k v)
  have hm : ∀ j : Fin 4, (rows (I c).ix (chB r) (ix2 (inBlock (chR r) u) 0) = Scalar.addi (Scalar.muli (word c) 4#32) (BitVec.ofNat 32 j.val))
      ↔ E (token r u) = expertOf c j := fun j => by rw [hi, word_expert, word_inj]
  simp only [hx, hg, hw]
  exact congrArg₂ (· + ·) (congrArg₂ (· + ·) (congrArg₂ (· + ·) (share_congr _ _ _ _ (hm 0) _) (share_congr _ _ _ _ (hm 1) _))
    (share_congr _ _ _ _ (hm 2) _)) (share_congr _ _ _ _ (hm 3) _)

/-- The finished sum for a token: the gate times its product with its expert. -/
theorem finF_apply (hS : Same I X RW IX EW SW) (E : Fin 1024 → Fin 64) (hE : ∀ i, IX (ix2 i 0) = BitVec.ofNat 32 (E i).val)
    (hT : ∀ i, score X RW i (E i) - top (score X RW i) = 0) (r : Fin 16) (u : Fin 64) (v : Fin 1024) :
    (finF I (ix3 r u v) : EReal)
      = gate (score X RW (token r u)) * ∑ k : Fin 512, X (ix2 (token r u) k) * EW (ix3 (E (token r u)) k v) := by
  have hA : ∀ c, (sumAF I c (ix3 r u v) : EReal)
      = sum4 (partF I c (ix3 r u v)) (partF I (grpD c 2) (ix3 r u v)) (partF I (grpD c 1) (ix3 r u v)) (partF I (grpD c 0) (ix3 r u v)) :=
    fun c => sumOf_apply _ _ _ _ u v
  refine (sumOf_apply _ _ _ _ u v).trans ?_
  refine (sum4_sum4 (fun c => partF I c (ix3 r u v)) r (fun c => sumAF I c (ix3 r u v)) hA).trans ?_
  simp only [partF_apply hS E hE]
  exact sum_shares _ _ _ (fun e k => EW (ix3 e k v)) (gate_nonneg _ _ (hT _)) (gate_ne_top _ _ (hT _))

/-- The result for a token: its gated product and its shared product. -/
theorem outF_apply (hS : Same I X RW IX EW SW) (E : Fin 1024 → Fin 64) (hE : ∀ i, IX (ix2 i 0) = BitVec.ofNat 32 (E i).val)
    (hT : ∀ i, score X RW i (E i) - top (score X RW i) = 0) (c : Dev nD) (i v : Fin 1024) :
    (outF I c (ix2 i v) : EReal)
      = gate (score X RW i) * (∑ k : Fin 512, X (ix2 i k) * EW (ix3 (E i) k v)) + ∑ k : Fin 512, X (ix2 i k) * SW (ix2 k v) := by
  refine (outOf_apply _ _ (rowR i) v).trans ?_
  refine congrArg₂ (· + ·) ?_ ?_
  · refine (finF_apply hS E hE hT (ch (rowB i) (rowQ (rowR i))) (rowU (rowR i)) v).trans ?_
    rw [token_row]
  · have e : rows (shF I c) (rowB i) = sharedOf (rows (xbF I c) (rowB i)) (sbF I c) := rows_shF I c (rowB i)
    refine (congrFun e (ix2 (rowR i) v)).trans ?_
    refine (sharedOf_apply _ _ (rowR i) v).trans (Finset.sum_congr rfl fun k _ => ?_)
    refine congrArg₂ (· * ·) ?_ ((sbF_apply I c _).trans (by rw [hS.sw]))
    refine (xbF_apply I c (ix2 (row (rowB i) (rowR i)) k)).trans ?_
    rw [hS.x, row_eq]

end Cert.Moe
-- ==== Proof.Reference.lean ====
/-
# 01_k — what the reference computes

The reference's result as one term of its arguments, its run, and its value at an index: the shared product of a token
and its probability times its product with its expert's weights.
-/
module

public import proofs.«01_k».proof.Proof.Gen.ReferenceIdeal.Run
public import proofs.«01_k».proof.Proof.Layer
public import Idealize.ShloMosaic.Lib.Pointwise
public import Idealize.ShloMosaic.Lib.StableHlo.Predicate

@[expose] public section

noncomputable section

namespace Cert.Moe.Ref

open Cert.ReferenceIdeal Cert.ReferenceIdeal.Gen
open Idealize.ShloMosaic

/-! ## The terms -/

/-- The scores. -/
def scores (x : FVec Ideal S1024x512 .f32) (rw : FVec Ideal S512x64 .f32) : FVec Ideal S1024x64 .f32 :=
  Host.dotGeneral dot_S1024x512_S512x64_S1024x64_1_0_0_1_n_n none x rw
/-- The exponentials of the scores, less each token's greatest. -/
def expo (s : FVec Ideal S1024x64 .f32) : FVec Ideal S1024x64 .f32 :=
  Host.exp (subf s (broadcastInDim S1024x64 ![0, 1] bcast_S1024x1_S1024x64_0_1 (broadcastInDim S1024x1 ![0] bcast_S1024_S1024x1_0
    (Host.reduce FloatOps.maximumf s (constant S_ .f32 0xFF800000#32) reducesTo_S1024x64_S1024_d1 h_S_))))
/-- The probabilities. -/
def probs (s : FVec Ideal S1024x64 .f32) : FVec Ideal S1024x64 .f32 :=
  Host.divf (expo s) (broadcastInDim S1024x64 ![0, 1] bcast_S1024x1_S1024x64_0_1 (broadcastInDim S1024x1 ![0] bcast_S1024_S1024x1_0
    (Host.reduceAdd (expo s) (constant S_ .f32 0x00000000#32) reducesTo_S1024x64_S1024_d1 h_S_)))
/-- An index, counted from the end where it is negative. -/
def wrap (n : BitVec 32) (i : IVec S1024 32) : IVec S1024 32 :=
  select (cmpi .slt i (broadcastInDim S1024 ![] bcast_S_S1024 (constantI S_ 32 0#32)))
    (addi i (broadcastInDim S1024 ![] bcast_S_S1024 (constantI S_ 32 n))) i
/-- The experts of the tokens, as a flat array. -/
def expert (ix : IVec S1024x1 32) : IVec S1024 32 := shapeCast _ ix shapeCasts_S1024x1_S1024
/-- Where each token's probability stands. -/
def places (e : IVec S1024 32) : IVec S1024x2 32 :=
  concatenate S1024x2 1 [⟨S1024x1, broadcastInDim S1024x1 ![0] bcast_S1024_S1024x1_0 (wrap 1024#32 (iotaInDim S1024 32 0))⟩,
    ⟨S1024x1, broadcastInDim S1024x1 ![0] bcast_S1024_S1024x1_0 (wrap 64#32 e)⟩] concatenates_S1024x1_S1024x1_S1024x2_d1
/-- Which expert's weights each token takes. -/
def choices (e : IVec S1024 32) : IVec S1024x1 32 := broadcastInDim S1024x1 ![0] bcast_S1024_S1024x1_0 (wrap 64#32 e)
/-- Each token's probability of its expert. -/
def chosen (p : FVec Ideal S1024x64 .f32) (e : IVec S1024 32) : FVec Ideal S1024 .f32 :=
  Host.gather gather_S1024x64_S1024x2_S1024_n_01_n_n_01_1_11 p (places e)
/-- Each token's expert's weights. -/
def weights (ew : FVec Ideal S64x512x1024 .f32) (e : IVec S1024 32) : FVec Ideal S1024x512x1024 .f32 :=
  Host.gather gather_S64x512x1024_S1024x1_S1024x512x1024_12_0_n_n_0_1_15121024 ew (choices e)
/-- The sum of the shared product and of the scaled products with the experts. -/
def combine (x : FVec Ideal S1024x512 .f32) (sw : FVec Ideal S512x1024 .f32) (p : FVec Ideal S1024 .f32)
    (w : FVec Ideal S1024x512x1024 .f32) : FVec Ideal S1024x1024 .f32 :=
  addf (Host.dotGeneral dot_S1024x512_S512x1024_S1024x1024_1_0_0_1_n_n none x sw)
    (mulf (broadcastInDim S1024x1024 ![0, 1] bcast_S1024x1_S1024x1024_0_1 (broadcastInDim S1024x1 ![0] bcast_S1024_S1024x1_0 p))
      (Host.dotGeneral dot_S1024x512_S1024x512x1024_S1024x1024_1_1_n_2_0_0 none x w))
/-- The result. -/
def out (x : FVec Ideal S1024x512 .f32) (rw : FVec Ideal S512x64 .f32) (ix : IVec S1024x1 32) (ew : FVec Ideal S64x512x1024 .f32)
    (sw : FVec Ideal S512x1024 .f32) : FVec Ideal S1024x1024 .f32 :=
  combine x sw (chosen (probs (scores x rw)) (expert ix)) (weights ew (expert ix))

open Idealize.SL.Sem Idealize.ShloMosaic.TcCoe in
/-- The reference runs; its result is `out` of its arguments, which stay. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v38) = out (m (c.tc.loc main_arg0)) (m (c.tc.loc main_arg1)) (m (c.tc.loc main_arg2)) (m (c.tc.loc main_arg3)) (m (c.tc.loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := Cert.ReferenceIdeal.Value.run m ρ

/-! ## At an index -/

/-- A score: the token's product with the router's column. -/
theorem scores_apply (x : FVec Ideal S1024x512 .f32) (rw : FVec Ideal S512x64 .f32) (i : Fin 1024) (e : Fin 64) :
    (scores x rw (ix2 i e) : EReal) = ∑ k : Fin 512, x (ix2 i k) * rw (ix2 k e) := by
  pointwise [scores]
/-- An exponential: of the score less the token's greatest. -/
theorem expo_apply (s : FVec Ideal S1024x64 .f32) (i : Fin 1024) (e : Fin 64) :
    (expo s (ix2 i e) : EReal) = Ideal.exp (s (ix2 i e) - top fun e => s (ix2 i e)) := by
  have h : expo s (ix2 i e) = Ideal.exp (s (ix2 i e)
      - Finset.fold max (Ideal.ofBits FTy.f32 0xFF800000#32) (fun e => s (ix2 i e)) Finset.univ) := by pointwise [expo]
  exact h
/-- A probability: the exponential over the sum of the token's exponentials. -/
theorem probs_apply (s : FVec Ideal S1024x64 .f32) (i : Fin 1024) (e : Fin 64) :
    (probs s (ix2 i e) : EReal) = Ideal.div (Ideal.exp (s (ix2 i e) - top fun e => s (ix2 i e))) (mass fun e => s (ix2 i e)) := by
  have h : probs s (ix2 i e) = Ideal.div (expo s (ix2 i e)) (∑ e, expo s (ix2 i e)) := by pointwise [probs]
  simp only [expo_apply] at h
  exact h
/-- A result element: the shared product, and the probability times the product with the token's weights. -/
theorem combine_apply (x : FVec Ideal S1024x512 .f32) (sw : FVec Ideal S512x1024 .f32) (p : FVec Ideal S1024 .f32)
    (w : FVec Ideal S1024x512x1024 .f32) (i v : Fin 1024) :
    (combine x sw p w (ix2 i v) : EReal)
      = (∑ k : Fin 512, x (ix2 i k) * sw (ix2 k v)) + p (ix1 i) * ∑ k : Fin 512, x (ix2 i k) * w (ix3 i k v) := by
  pointwise [combine]
/-- A token's expert. -/
theorem expert_apply (ix : IVec S1024x1 32) (i : Fin 1024) : expert ix (ix1 i) = ix (ix2 i 0) := by
  pointwise [expert]

/-- A small index is not negative, and stays. -/
theorem wrap_apply (n : BitVec 32) (i : IVec S1024 32) (k : Fin 1024) (a : Nat) (ha : a < 1024) (h : i (ix1 k) = BitVec.ofNat 32 a) :
    wrap n i (ix1 k) = BitVec.ofNat 32 a := by
  have e : wrap n i (ix1 k) = Scalar.select (IntOp.cmpi .slt (i (ix1 k)) 0#32) (IntOp.addi (i (ix1 k)) n) (i (ix1 k)) := by
    pointwise [wrap]
  have hz : ¬ IntOp.cmpi .slt (BitVec.ofNat 32 a) 0#32 = 1#1 := fun hs => by
    have := (StableHlo.Predicate.slt_iff_toNat (by simp only [BitVec.toNat_ofNat]; omega) (by decide)).mp hs
    simp at this
  rw [e, h]; exact if_neg hz
/-- The row of a token's probability is the token. -/
theorem places_zero (e : IVec S1024 32) (k : Fin 1024) : places e (ix2 k 0) = BitVec.ofNat 32 k.val := by
  have h : places e (ix2 k 0) = wrap 1024#32 (iotaInDim S1024 32 0) (ix1 k) := by pointwise [places]
  exact h.trans (wrap_apply _ _ _ _ k.isLt rfl)
/-- The column of a token's probability is its expert. -/
theorem places_one (e : IVec S1024 32) (k : Fin 1024) (E : Fin 64) (hE : e (ix1 k) = BitVec.ofNat 32 E.val) :
    places e (ix2 k 1) = BitVec.ofNat 32 E.val := by
  have h : places e (ix2 k 1) = wrap 64#32 e (ix1 k) := by pointwise [places]
  exact h.trans (wrap_apply _ _ _ _ (by omega) hE)
/-- The weights a token takes are named by its expert. -/
theorem choices_apply (e : IVec S1024 32) (k : Fin 1024) (E : Fin 64) (hE : e (ix1 k) = BitVec.ofNat 32 E.val) :
    choices e (ix2 k 0) = BitVec.ofNat 32 E.val := by
  have h : choices e (ix2 k 0) = wrap 64#32 e (ix1 k) := by pointwise [choices]
  exact h.trans (wrap_apply _ _ _ _ (by omega) hE)

/-- A small start, clamped into its axis, stays. -/
theorem clamp_small (w : BitVec 32) (a n : Nat) (h : w = BitVec.ofNat 32 a) (ha : a ≤ n) (hn : n < 2 ^ 31) :
    min w.toInt.toNat n = a := by
  subst h
  rw [StableHlo.Predicate.toInt_ofNat_small a (by omega)]
  omega

/-- The probability taken at a place. -/
theorem chosen_apply (p : FVec Ideal S1024x64 .f32) (e : IVec S1024 32) (k : Fin 1024) (E : Fin 64)
    (hE : e (ix1 k) = BitVec.ofNat 32 E.val) : chosen p e (ix1 k) = p (ix2 k E) := by
  refine congrArg p (funext fun a => Fin.ext ?_)
  show GatherDims.start _ _ _ a + GatherDims.batchCoord _ _ a + GatherDims.offCoord _ _ a = _
  have hc : a ∈ ([0, 1] : List (Fin 2)) := by revert a; decide
  rw [GatherDims.batchCoord_eq_zero _ _ _ List.not_mem_nil,
    GatherDims.offCoord_eq_zero _ _ _ fun h => ((GatherDims.mem_sKept _ _).mp h).1 hc, Nat.add_zero]
  unfold GatherDims.start
  rw [dif_pos (show a ∈ gather_S1024x64_S1024x2_S1024_n_01_n_n_01_1_11.startIndexMap from hc)]
  match a with
  | ⟨0, _⟩ =>
    refine clamp_small _ k.val 1023 (Eq.trans (congrArg (places e) ?_) (places_zero e k)) (by omega) (by decide)
    funext b; match b with | ⟨0, _⟩ => rfl | ⟨1, _⟩ => rfl
  | ⟨1, _⟩ =>
    refine clamp_small _ E.val 63 (Eq.trans (congrArg (places e) ?_) (places_one e k E hE)) (by omega) (by decide)
    funext b; match b with | ⟨0, _⟩ => rfl | ⟨1, _⟩ => rfl

/-- The weights taken are the chosen expert's. -/
theorem weights_apply (ew : FVec Ideal S64x512x1024 .f32) (e : IVec S1024 32) (k : Fin 1024) (E : Fin 64)
    (hE : e (ix1 k) = BitVec.ofNat 32 E.val) (d : Fin 512) (v : Fin 1024) : weights ew e (ix3 k d v) = ew (ix3 E d v) := by
  refine congrArg ew (funext fun a => Fin.ext ?_)
  show GatherDims.start _ _ _ a + GatherDims.batchCoord _ _ a + GatherDims.offCoord _ _ a = _
  rw [GatherDims.batchCoord_eq_zero _ _ _ List.not_mem_nil, Nat.add_zero]
  match a with
  | ⟨0, _⟩ =>
    rw [GatherDims.offCoord_eq_zero _ _ _ fun h => ((GatherDims.mem_sKept _ _).mp h).1 (List.mem_singleton.mpr rfl), Nat.add_zero]
    unfold GatherDims.start
    refine (dif_pos (List.mem_singleton.mpr rfl)).trans ?_
    refine clamp_small _ E.val 63 (Eq.trans (congrArg (choices e) ?_) (choices_apply e k E hE)) (by omega) (by decide)
    funext b; match b with | ⟨0, _⟩ => rfl | ⟨1, _⟩ => rfl
  | ⟨1, _⟩ => exact Nat.zero_add _
  | ⟨2, _⟩ => exact Nat.zero_add _

/-- The reference's result for a token whose expert is `E`: its shared product, and its probability of `E` times its
    product with `E`'s weights. -/
theorem out_apply (x : FVec Ideal S1024x512 .f32) (rw : FVec Ideal S512x64 .f32) (ix : IVec S1024x1 32)
    (ew : FVec Ideal S64x512x1024 .f32) (sw : FVec Ideal S512x1024 .f32) (i v : Fin 1024) (E : Fin 64)
    (hE : ix (ix2 i 0) = BitVec.ofNat 32 E.val) (s : Fin 64 → EReal) (hs : s = fun e => ∑ k : Fin 512, x (ix2 i k) * rw (ix2 k e)) :
    (out x rw ix ew sw (ix2 i v) : EReal)
      = (∑ k : Fin 512, x (ix2 i k) * sw (ix2 k v)) + Ideal.div (Ideal.exp (s E - top s)) (mass s) * ∑ k : Fin 512, x (ix2 i k) * ew (ix3 E k v) := by
  have hE' : expert ix (ix1 i) = BitVec.ofNat 32 E.val := (expert_apply ix i).trans hE
  refine (combine_apply _ _ _ _ i v).trans ?_
  refine congrArg₂ (· + ·) rfl (congrArg₂ (· * ·) ?_ (Finset.sum_congr rfl fun k _ => ?_))
  · refine (chosen_apply _ _ i E hE').trans ((probs_apply _ i E).trans ?_)
    have hf : (fun e => (scores x rw (ix2 i e) : EReal)) = s := by rw [hs]; exact funext fun e => scores_apply x rw i e
    rw [hf, show (scores x rw (ix2 i E) : EReal) = s E from congrFun hf E]
  · rw [weights_apply ew _ i E hE']

end Cert.Moe.Ref
-- ==== Proof.Routed.lean ====
/-
# 01_k — what the precondition says

The precondition's bit is set only where every token names one of the 64 experts, and one of its greatest-scored.
-/
module

public import proofs.«01_k».proof.Proof.Gen.Pre_routed_KernelIdeal
public import proofs.«01_k».proof.Proof.Layer
public import Idealize.ShloMosaic.Lib.Pointwise
public import Idealize.ShloMosaic.Lib.StableHlo.Predicate

@[expose] public section

noncomputable section

namespace Cert.Moe.Routed

open Cert.Pre_routed_KernelIdeal Cert.Pre_routed_KernelIdeal.Gen
open Idealize.ShloMosaic

variable (x : FVec Ideal S1024x512 .f32) (rw : FVec Ideal S512x64 .f32) (ix : IVec S1024x1 32) (ew : FVec Ideal S4x512x1024 .f32)
  (sw : FVec Ideal S512x1024 .f32)

/-- Both bits of a set conjunction are set. -/
theorem and_bits {a b : BitVec 1} (h : IntOp.andi a b = 1#1) : a = 1#1 ∧ b = 1#1 := by
  revert a b; decide
/-- One bit of a set disjunction is set. -/
theorem or_bits {a b : BitVec 1} (h : IntOp.ori a b = 1#1) : a = 1#1 ∨ b = 1#1 := by
  revert a b; decide
/-- A conjunction over a set is set only where every bit is. -/
theorem all_bits {ι : Type} [DecidableEq ι] (f : ι → BitVec 1) (S : Finset ι) (h : S.fold IntOp.andi 1#1 f = 1#1) :
    ∀ i ∈ S, f i = 1#1 := by
  induction S using Finset.induction_on with
  | empty => exact fun i hi => absurd hi (Finset.notMem_empty i)
  | insert a S ha ih =>
    rw [Finset.fold_insert ha] at h
    intro i hi
    rcases Finset.mem_insert.mp hi with rfl | hi
    · exact (and_bits h).1
    · exact ih (and_bits h).2 i hi
/-- A disjunction over a set is set only where some bit is. -/
theorem any_bit {ι : Type} [DecidableEq ι] (f : ι → BitVec 1) (S : Finset ι) (h : S.fold IntOp.ori 0#1 f = 1#1) :
    ∃ i ∈ S, f i = 1#1 := by
  induction S using Finset.induction_on with
  | empty => exact absurd h (by rw [Finset.fold_empty]; decide)
  | insert a S ha ih =>
    rw [Finset.fold_insert ha] at h
    rcases or_bits h with h | h
    · exact ⟨a, Finset.mem_insert_self a S, h⟩
    · obtain ⟨i, hi, hf⟩ := ih h
      exact ⟨i, Finset.mem_insert_of_mem hi, hf⟩

/-- Whether expert `e` is the one token `i` names, and one of its greatest-scored. -/
def picks (i : Fin 1024) (e : Fin 64) : BitVec 1 :=
  IntOp.andi (IntOp.cmpi CmpIPredicate.eq (BitVec.ofNat 32 e.val) (ix (ix2 i 0)))
    (BitVec.ofBool (decide ((∑ k : Fin 512, x (ix2 i k) * rw (ix2 k e)) - Finset.fold max (Ideal.ofBits FTy.f32 0xFF800000#32)
      (fun e => ∑ k : Fin 512, x (ix2 i k) * rw (ix2 k e)) Finset.univ = 0)))

/-- The precondition at its one index: every token picks some expert. -/
theorem fn_apply (j : S_.Idx) :
    fn x rw ix ew sw j = Finset.univ.fold IntOp.andi 1#1 fun i => Finset.univ.fold IntOp.ori 0#1 fun e => picks x rw ix i e := by
  simp only [picks]
  pointwise [fn]

/-- Under the precondition every token names an expert, whose score is its greatest. -/
theorem routed (h : fn x rw ix ew sw = fun _ => 1#1) (i : Fin 1024) :
    ∃ E : Fin 64, ix (ix2 i 0) = BitVec.ofNat 32 E.val
      ∧ (∑ k : Fin 512, x (ix2 i k) * rw (ix2 k E)) - (top fun e => ∑ k : Fin 512, x (ix2 i k) * rw (ix2 k e)) = 0 := by
  have h0 := (fn_apply x rw ix ew sw fun a => a.elim0).symm.trans (congrFun h _)
  obtain ⟨E, -, hE⟩ := any_bit _ _ (all_bits _ _ h0 i (Finset.mem_univ i))
  obtain ⟨he, ht⟩ := and_bits hE
  exact ⟨E, (StableHlo.Predicate.cmpi_eq_iff.mp he).symm, of_decide_eq_true ((StableHlo.Predicate.ofBool_eq_one_iff _).mp ht)⟩

end Cert.Moe.Routed
-- ==== Proof.Algebra.lean ====
/-
# 01_k — the value claim

Where every token names an expert that scores greatest, the kernel's result on each of the sixteen devices is the
reference's.
-/
module

public import proofs.«01_k».proof.Defs
public import proofs.«01_k».proof.Proof.Arrays
public import proofs.«01_k».proof.Proof.Result
public import proofs.«01_k».proof.Proof.Reference
public import proofs.«01_k».proof.Proof.Routed
public import proofs.«01_k».proof.Proof.Frames

@[expose] public section

noncomputable section

namespace Cert.Moe

open Cert.KernelIdeal Cert.KernelIdeal.Gen
open Idealize.ShloMosaic Idealize.ShloMosaic.TcCoe Idealize.SL.Sem

/-- A device's block of the experts' weights is its four experts'. -/
theorem block_expert (c : Dev nD) (W : (⟨3, ![64, 512, 1024]⟩ : Shape).Idx → EReal) (k : Fin 4) (d : Fin 512) (v : Fin 1024) :
    Layout.block ⟨3, ![4, 512, 1024]⟩ ⟨3, ![64, 512, 1024]⟩ 0 16 c W (by decide) (ix3 k d v) = W (ix3 (expertOf c k) d v) := by
  refine congrArg W (funext fun a => Fin.ext ?_)
  match a with
  | ⟨0, _⟩ => exact congrArg (· + k.val) (Nat.mul_comm c.val 4)
  | ⟨1, _⟩ => rfl
  | ⟨2, _⟩ => rfl

/-- The two results agree, for tokens whose named experts score greatest. -/
theorem out_eq {I : Dev nD → Inp Ideal} {X : Vec Ideal S1024x512 .f32} {RW : Vec Ideal S512x64 .f32} {IX : Vec Ideal S1024x1 .i32}
    {EW : (⟨3, ![64, 512, 1024]⟩ : Shape).Idx → EReal} {SW : Vec Ideal S512x1024 .f32} (hS : Same I X RW IX EW SW)
    (hR : ∀ i : Fin 1024, ∃ E : Fin 64, IX (ix2 i 0) = BitVec.ofNat 32 E.val ∧ score X RW i E - top (score X RW i) = 0) (c : Dev nD) :
    outF I c = Ref.out X RW IX EW SW := by
  choose E hE hT using hR
  suffices h : ∀ i v : Fin 1024, outF I c (ix2 i v) = Ref.out X RW IX EW SW (ix2 i v) by
    exact funext fun j => by
      rw [show j = ix2 (j 0) (j 1) from funext fun a => by match a with | ⟨0, _⟩ => rfl | ⟨1, _⟩ => rfl]
      exact h _ _
  intro i v
  refine (outF_apply hS E hE hT c i v).trans ?_
  refine (add_comm _ _).trans (Eq.symm ((Ref.out_apply X RW IX EW SW i v (E i) (hE i) (score X RW i) rfl).trans ?_))
  rw [prob_eq_gate _ _ (hT i)]

/-- The value claim. -/
theorem algebraic : Cert.algebraic_KernelIdeal_ReferenceIdeal_pre_routed_KernelIdeal := fun m g m' g' hpre hagree => by
  have hS : Same (inp m) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    ⟨fun c => (inp_x m c).trans (hagree c).1, fun c => (inp_rw m c).trans (hagree c).2.1, fun c => (inp_ix m c).trans (hagree c).2.2.1,
      fun c k d v => (congrFun ((inp_ew m c).trans (hagree c).2.2.2.1) _).trans (block_expert c _ k d v),
      fun c => (inp_sw m c).trans (hagree c).2.2.2.2⟩
  have h0 := hpre (0 : Dev nD)
  rw [(hagree 0).1, (hagree 0).2.1, (hagree 0).2.2.1] at h0
  have hR := Routed.routed _ _ _ _ _ h0
  exact ⟨_, (θ_run Cert.KernelIdeal.defs _ _).mono
      (fun _ h c => ⟨(h.1 c).1.trans ((final_eq m c).trans (out_eq hS hR c)), (h.1 c).2⟩) (run_main (F := Ideal) m g),
    (θ_run Cert.ReferenceIdeal.defs _ _).mono (fun _ h => h 0) (Ref.run m' g')⟩

end Cert.Moe
-- ==== Proof.lean ====
/-
# 01_k — the claims, proved

The three frames, the idealization (the kernel's own text) and the value claim: on each of the sixteen devices the
kernel's result is the reference's. Frames.lean and Algebra.lean hold the proofs; this file puts them together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_routed_KernelIdeal
public import proofs.«01_k».proof.Proof.Gen.Pre_routed_ReferenceIdeal
public import proofs.«01_k».proof.Proof.Frames
public import proofs.«01_k».proof.Proof.Algebra

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts,
    Cert.Pre_routed_KernelIdeal.Gen.facts, Cert.Pre_routed_ReferenceIdeal.Gen.facts,
    Cert.Moe.frame_kernel, Cert.Moe.frame_ideal, Cert.Moe.frame_ideal_routed, Cert.Moe.frame_reference, Cert.Moe.frame_reference_routed, trivial, Cert.Moe.algebraic⟩

end Cert.Proof

end
